-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S4096x1024 : Shape := ⟨2, ![4096, 1024]⟩
abbrev S2048x1024 : Shape := ⟨2, ![2048, 1024]⟩
abbrev S1024x1024 : Shape := ⟨2, ![1024, 1024]⟩
abbrev S2 : Shape := ⟨1, ![2]⟩
abbrev S10 : Shape := ⟨1, ![10]⟩
abbrev S5 : Shape := ⟨1, ![5]⟩
abbrev S_ : Shape := ⟨0, ![]⟩
abbrev S1 : Shape := ⟨1, ![1]⟩
abbrev S256x1024 : Shape := ⟨2, ![256, 1024]⟩
abbrev S512x1024 : Shape := ⟨2, ![512, 1024]⟩

abbrev nBuf : Space → Nat
  | .hbm => 2
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 122 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | _ => false

abbrev sig : RefSig :=
  (ofTc nBuf bufTy 1 122 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v26 : BitVec 32 := Scalar.muli v2 c4_i32_15
  let v27 : BitVec 32 := Scalar.addi c0_i32 v26
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_16 : BitVec 32 := 2#32
  let v28 : BitVec 32 := Scalar.muli v9 c2_i32_16
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v30 : BitVec 32 := Scalar.muli v8 c1_i32_17
  let v31 : BitVec 32 := Scalar.addi v29 v30
  v31.toNat
def k0_dev2 (d0 : Dev nD) : Nat :=
  let c0_i32_20 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_19 : BitVec 32 := 4#32
  let v32 : BitVec 32 := Scalar.muli v10 c4_i32_19
  let v33 : BitVec 32 := Scalar.addi c0_i32_20 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v34 : BitVec 32 := Scalar.muli v5 c2_i32_21
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v36 : BitVec 32 := Scalar.muli v8 c1_i32_22
  let v37 : BitVec 32 := Scalar.addi v35 v36
  v37.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_27 : BitVec 32 := 1#32
  let v42 : BitVec 32 := Scalar.muli v11 c1_i32_27
  let v43 : BitVec 32 := Scalar.addi v41 v42
  v43.toNat
def k0_off1 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4096_i32 : BitVec 32 := 4096#32
  let v24 : BitVec 32 := Scalar.muli v13 c4096_i32
  let c0_i32_31 : BitVec 32 := 0#32
  ![v24.toNat, 0]
def k0_off2 (d0 : Dev nD) (c0_i32_32 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4096_i32 : BitVec 32 := 4096#32
  let v24 : BitVec 32 := Scalar.muli v13 c4096_i32
  let v48 : BitVec 32 := Scalar.addi v24 c0_i32_32
  let c0_i32_36 : BitVec 32 := 0#32
  ![v48.toNat, 0]
def k0_off2_at (r : Fin 4) : BitVec 32 :=
  if r.val < 2 then
    if r.val < 1 then
      0#32
    else
      256#32
  else
    if r.val < 3 then
      3584#32
    else
      3840#32
def k0_dev4 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v63 : BitVec 32 := Scalar.muli v2 c4_i32_45
  let v64 : BitVec 32 := Scalar.addi c0_i32_46 v63
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_47 : BitVec 32 := 2#32
  let v65 : BitVec 32 := Scalar.muli v9 c2_i32_47
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v67 : BitVec 32 := Scalar.muli v8 c1_i32_48
  let v68 : BitVec 32 := Scalar.addi v66 v67
  v68.toNat
def k0_off3 (d0 : Dev nD) (c512_i32_58 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4096_i32 : BitVec 32 := 4096#32
  let v24 : BitVec 32 := Scalar.muli v13 c4096_i32
  let v80 : BitVec 32 := Scalar.addi v24 c512_i32_58
  let c0_i32_62 : BitVec 32 := 0#32
  ![v80.toNat, 0]
def k0_dev5 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_67 : BitVec 32 := 4#32
  let v90 : BitVec 32 := Scalar.muli v2 c4_i32_67
  let v91 : BitVec 32 := Scalar.addi c0_i32_68 v90
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_69 : BitVec 32 := 2#32
  let v92 : BitVec 32 := Scalar.muli v9 c2_i32_69
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v94 : BitVec 32 := Scalar.muli v8 c1_i32_70
  let v95 : BitVec 32 := Scalar.addi v93 v94
  v95.toNat
def k0_dev6 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v117 : BitVec 32 := Scalar.muli v2 c4_i32_90
  let v118 : BitVec 32 := Scalar.addi c0_i32_91 v117
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_92 : BitVec 32 := 2#32
  let v119 : BitVec 32 := Scalar.muli v9 c2_i32_92
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v121 : BitVec 32 := Scalar.muli v8 c1_i32_93
  let v122 : BitVec 32 := Scalar.addi v120 v121
  v122.toNat
def k0_dev7 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_112 : BitVec 32 := 4#32
  let v144 : BitVec 32 := Scalar.muli v2 c4_i32_112
  let v145 : BitVec 32 := Scalar.addi c0_i32_113 v144
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_114 : BitVec 32 := 2#32
  let v146 : BitVec 32 := Scalar.muli v9 c2_i32_114
  let v147 : BitVec 32 := Scalar.addi v145 v146
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_115 : BitVec 32 := 1#32
  let v148 : BitVec 32 := Scalar.muli v8 c1_i32_115
  let v149 : BitVec 32 := Scalar.addi v147 v148
  v149.toNat
def k0_dev8 (d0 : Dev nD) : Nat :=
  let c0_i32_135 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_134 : BitVec 32 := 4#32
  let v171 : BitVec 32 := Scalar.muli v2 c4_i32_134
  let v172 : BitVec 32 := Scalar.addi c0_i32_135 v171
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_136 : BitVec 32 := 2#32
  let v173 : BitVec 32 := Scalar.muli v9 c2_i32_136
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_137 : BitVec 32 := 1#32
  let v175 : BitVec 32 := Scalar.muli v8 c1_i32_137
  let v176 : BitVec 32 := Scalar.addi v174 v175
  v176.toNat
def k0_dev9 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_155 : BitVec 32 := 4#32
  let v198 : BitVec 32 := Scalar.muli v2 c4_i32_155
  let v199 : BitVec 32 := Scalar.addi c0_i32_156 v198
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_157 : BitVec 32 := 2#32
  let v200 : BitVec 32 := Scalar.muli v9 c2_i32_157
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v202 : BitVec 32 := Scalar.muli v8 c1_i32_158
  let v203 : BitVec 32 := Scalar.addi v201 v202
  v203.toNat
def k0_dev10 (d0 : Dev nD) : Nat :=
  let c0_i32_177 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_176 : BitVec 32 := 4#32
  let v225 : BitVec 32 := Scalar.muli v2 c4_i32_176
  let v226 : BitVec 32 := Scalar.addi c0_i32_177 v225
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_178 : BitVec 32 := 2#32
  let v227 : BitVec 32 := Scalar.muli v9 c2_i32_178
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_179 : BitVec 32 := 1#32
  let v229 : BitVec 32 := Scalar.muli v8 c1_i32_179
  let v230 : BitVec 32 := Scalar.addi v228 v229
  v230.toNat
def k0_dev11 (d0 : Dev nD) : Nat :=
  let c0_i32_198 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_197 : BitVec 32 := 4#32
  let v252 : BitVec 32 := Scalar.muli v2 c4_i32_197
  let v253 : BitVec 32 := Scalar.addi c0_i32_198 v252
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_199 : BitVec 32 := 2#32
  let v254 : BitVec 32 := Scalar.muli v9 c2_i32_199
  let v255 : BitVec 32 := Scalar.addi v253 v254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v256 : BitVec 32 := Scalar.muli v8 c1_i32_200
  let v257 : BitVec 32 := Scalar.addi v255 v256
  v257.toNat
def k0_dev12 (d0 : Dev nD) : Nat :=
  let c0_i32_219 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_218 : BitVec 32 := 4#32
  let v279 : BitVec 32 := Scalar.muli v2 c4_i32_218
  let v280 : BitVec 32 := Scalar.addi c0_i32_219 v279
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_220 : BitVec 32 := 2#32
  let v281 : BitVec 32 := Scalar.muli v9 c2_i32_220
  let v282 : BitVec 32 := Scalar.addi v280 v281
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_221 : BitVec 32 := 1#32
  let v283 : BitVec 32 := Scalar.muli v8 c1_i32_221
  let v284 : BitVec 32 := Scalar.addi v282 v283
  v284.toNat
def k0_dev13 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_235 : BitVec 32 := 4#32
  let v301 : BitVec 32 := Scalar.muli v2 c4_i32_235
  let v302 : BitVec 32 := Scalar.addi c0_i32_236 v301
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_237 : BitVec 32 := 2#32
  let v303 : BitVec 32 := Scalar.muli v9 c2_i32_237
  let v304 : BitVec 32 := Scalar.addi v302 v303
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v305 : BitVec 32 := Scalar.muli v8 c1_i32_238
  let v306 : BitVec 32 := Scalar.addi v304 v305
  v306.toNat
def k0_dev14 (d0 : Dev nD) : Nat :=
  let c0_i32_262 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_261 : BitVec 32 := 4#32
  let v329 : BitVec 32 := Scalar.muli v10 c4_i32_261
  let v330 : BitVec 32 := Scalar.addi c0_i32_262 v329
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_263 : BitVec 32 := 2#32
  let v331 : BitVec 32 := Scalar.muli v5 c2_i32_263
  let v332 : BitVec 32 := Scalar.addi v330 v331
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v333 : BitVec 32 := Scalar.muli v8 c1_i32_264
  let v334 : BitVec 32 := Scalar.addi v332 v333
  v334.toNat
def k0_dev15 (d0 : Dev nD) : Nat :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_271 : BitVec 32 := 4#32
  let v341 : BitVec 32 := Scalar.muli v2 c4_i32_271
  let v342 : BitVec 32 := Scalar.addi c0_i32_272 v341
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_273 : BitVec 32 := 2#32
  let v343 : BitVec 32 := Scalar.muli v5 c2_i32_273
  let v344 : BitVec 32 := Scalar.addi v342 v343
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_274 : BitVec 32 := 1#32
  let v345 : BitVec 32 := Scalar.muli v11 c1_i32_274
  let v346 : BitVec 32 := Scalar.addi v344 v345
  v346.toNat
def k0_dev16 (d0 : Dev nD) : Nat :=
  let c0_i32_303 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_302 : BitVec 32 := 4#32
  let v374 : BitVec 32 := Scalar.muli v10 c4_i32_302
  let v375 : BitVec 32 := Scalar.addi c0_i32_303 v374
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_304 : BitVec 32 := 2#32
  let v376 : BitVec 32 := Scalar.muli v5 c2_i32_304
  let v377 : BitVec 32 := Scalar.addi v375 v376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_305 : BitVec 32 := 1#32
  let v378 : BitVec 32 := Scalar.muli v8 c1_i32_305
  let v379 : BitVec 32 := Scalar.addi v377 v378
  v379.toNat
def k0_dev17 (d0 : Dev nD) : Nat :=
  let c0_i32_313 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_312 : BitVec 32 := 4#32
  let v386 : BitVec 32 := Scalar.muli v2 c4_i32_312
  let v387 : BitVec 32 := Scalar.addi c0_i32_313 v386
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_314 : BitVec 32 := 2#32
  let v388 : BitVec 32 := Scalar.muli v5 c2_i32_314
  let v389 : BitVec 32 := Scalar.addi v387 v388
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_315 : BitVec 32 := 1#32
  let v390 : BitVec 32 := Scalar.muli v11 c1_i32_315
  let v391 : BitVec 32 := Scalar.addi v389 v390
  v391.toNat
def k0_dev18 (d0 : Dev nD) : Nat :=
  let c0_i32_344 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_343 : BitVec 32 := 4#32
  let v419 : BitVec 32 := Scalar.muli v10 c4_i32_343
  let v420 : BitVec 32 := Scalar.addi c0_i32_344 v419
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v421 : BitVec 32 := Scalar.muli v5 c2_i32_345
  let v422 : BitVec 32 := Scalar.addi v420 v421
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_346 : BitVec 32 := 1#32
  let v423 : BitVec 32 := Scalar.muli v8 c1_i32_346
  let v424 : BitVec 32 := Scalar.addi v422 v423
  v424.toNat
def k0_dev19 (d0 : Dev nD) : Nat :=
  let c0_i32_354 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_353 : BitVec 32 := 4#32
  let v431 : BitVec 32 := Scalar.muli v2 c4_i32_353
  let v432 : BitVec 32 := Scalar.addi c0_i32_354 v431
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_355 : BitVec 32 := 2#32
  let v433 : BitVec 32 := Scalar.muli v5 c2_i32_355
  let v434 : BitVec 32 := Scalar.addi v432 v433
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_356 : BitVec 32 := 1#32
  let v435 : BitVec 32 := Scalar.muli v11 c1_i32_356
  let v436 : BitVec 32 := Scalar.addi v434 v435
  v436.toNat
def k0_dev20 (d0 : Dev nD) : Nat :=
  let c0_i32_385 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_384 : BitVec 32 := 4#32
  let v464 : BitVec 32 := Scalar.muli v10 c4_i32_384
  let v465 : BitVec 32 := Scalar.addi c0_i32_385 v464
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_386 : BitVec 32 := 2#32
  let v466 : BitVec 32 := Scalar.muli v5 c2_i32_386
  let v467 : BitVec 32 := Scalar.addi v465 v466
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_387 : BitVec 32 := 1#32
  let v468 : BitVec 32 := Scalar.muli v8 c1_i32_387
  let v469 : BitVec 32 := Scalar.addi v467 v468
  v469.toNat
def k0_dev21 (d0 : Dev nD) : Nat :=
  let c0_i32_395 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_394 : BitVec 32 := 4#32
  let v476 : BitVec 32 := Scalar.muli v2 c4_i32_394
  let v477 : BitVec 32 := Scalar.addi c0_i32_395 v476
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_396 : BitVec 32 := 2#32
  let v478 : BitVec 32 := Scalar.muli v5 c2_i32_396
  let v479 : BitVec 32 := Scalar.addi v477 v478
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_397 : BitVec 32 := 1#32
  let v480 : BitVec 32 := Scalar.muli v11 c1_i32_397
  let v481 : BitVec 32 := Scalar.addi v479 v480
  v481.toNat
def k0_dev22 (d0 : Dev nD) : Nat :=
  let c0_i32_426 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_425 : BitVec 32 := 4#32
  let v509 : BitVec 32 := Scalar.muli v10 c4_i32_425
  let v510 : BitVec 32 := Scalar.addi c0_i32_426 v509
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_427 : BitVec 32 := 2#32
  let v511 : BitVec 32 := Scalar.muli v5 c2_i32_427
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_428 : BitVec 32 := 1#32
  let v513 : BitVec 32 := Scalar.muli v8 c1_i32_428
  let v514 : BitVec 32 := Scalar.addi v512 v513
  v514.toNat
def k0_dev23 (d0 : Dev nD) : Nat :=
  let c0_i32_436 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_435 : BitVec 32 := 4#32
  let v521 : BitVec 32 := Scalar.muli v2 c4_i32_435
  let v522 : BitVec 32 := Scalar.addi c0_i32_436 v521
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_437 : BitVec 32 := 2#32
  let v523 : BitVec 32 := Scalar.muli v5 c2_i32_437
  let v524 : BitVec 32 := Scalar.addi v522 v523
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_438 : BitVec 32 := 1#32
  let v525 : BitVec 32 := Scalar.muli v11 c1_i32_438
  let v526 : BitVec 32 := Scalar.addi v524 v525
  v526.toNat
def k0_dev24 (d0 : Dev nD) : Nat :=
  let c0_i32_467 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_466 : BitVec 32 := 4#32
  let v554 : BitVec 32 := Scalar.muli v10 c4_i32_466
  let v555 : BitVec 32 := Scalar.addi c0_i32_467 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_468 : BitVec 32 := 2#32
  let v556 : BitVec 32 := Scalar.muli v5 c2_i32_468
  let v557 : BitVec 32 := Scalar.addi v555 v556
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_469 : BitVec 32 := 1#32
  let v558 : BitVec 32 := Scalar.muli v8 c1_i32_469
  let v559 : BitVec 32 := Scalar.addi v557 v558
  v559.toNat
def k0_dev25 (d0 : Dev nD) : Nat :=
  let c0_i32_477 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_476 : BitVec 32 := 4#32
  let v566 : BitVec 32 := Scalar.muli v2 c4_i32_476
  let v567 : BitVec 32 := Scalar.addi c0_i32_477 v566
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_478 : BitVec 32 := 2#32
  let v568 : BitVec 32 := Scalar.muli v5 c2_i32_478
  let v569 : BitVec 32 := Scalar.addi v567 v568
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_479 : BitVec 32 := 1#32
  let v570 : BitVec 32 := Scalar.muli v11 c1_i32_479
  let v571 : BitVec 32 := Scalar.addi v569 v570
  v571.toNat
def k0_dev26 (d0 : Dev nD) : Nat :=
  let c0_i32_508 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_507 : BitVec 32 := 4#32
  let v599 : BitVec 32 := Scalar.muli v10 c4_i32_507
  let v600 : BitVec 32 := Scalar.addi c0_i32_508 v599
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_509 : BitVec 32 := 2#32
  let v601 : BitVec 32 := Scalar.muli v5 c2_i32_509
  let v602 : BitVec 32 := Scalar.addi v600 v601
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_510 : BitVec 32 := 1#32
  let v603 : BitVec 32 := Scalar.muli v8 c1_i32_510
  let v604 : BitVec 32 := Scalar.addi v602 v603
  v604.toNat
def k0_dev27 (d0 : Dev nD) : Nat :=
  let c0_i32_518 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_517 : BitVec 32 := 4#32
  let v611 : BitVec 32 := Scalar.muli v2 c4_i32_517
  let v612 : BitVec 32 := Scalar.addi c0_i32_518 v611
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_519 : BitVec 32 := 2#32
  let v613 : BitVec 32 := Scalar.muli v5 c2_i32_519
  let v614 : BitVec 32 := Scalar.addi v612 v613
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_520 : BitVec 32 := 1#32
  let v615 : BitVec 32 := Scalar.muli v11 c1_i32_520
  let v616 : BitVec 32 := Scalar.addi v614 v615
  v616.toNat
def k0_dev28 (d0 : Dev nD) : Nat :=
  let c0_i32_549 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_548 : BitVec 32 := 4#32
  let v644 : BitVec 32 := Scalar.muli v10 c4_i32_548
  let v645 : BitVec 32 := Scalar.addi c0_i32_549 v644
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_550 : BitVec 32 := 2#32
  let v646 : BitVec 32 := Scalar.muli v5 c2_i32_550
  let v647 : BitVec 32 := Scalar.addi v645 v646
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_551 : BitVec 32 := 1#32
  let v648 : BitVec 32 := Scalar.muli v8 c1_i32_551
  let v649 : BitVec 32 := Scalar.addi v647 v648
  v649.toNat
def k0_dev29 (d0 : Dev nD) : Nat :=
  let c0_i32_559 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_558 : BitVec 32 := 4#32
  let v656 : BitVec 32 := Scalar.muli v2 c4_i32_558
  let v657 : BitVec 32 := Scalar.addi c0_i32_559 v656
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_560 : BitVec 32 := 2#32
  let v658 : BitVec 32 := Scalar.muli v5 c2_i32_560
  let v659 : BitVec 32 := Scalar.addi v657 v658
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_561 : BitVec 32 := 1#32
  let v660 : BitVec 32 := Scalar.muli v11 c1_i32_561
  let v661 : BitVec 32 := Scalar.addi v659 v660
  v661.toNat
def k0_dev30 (d0 : Dev nD) : Nat :=
  let c0_i32_590 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_589 : BitVec 32 := 4#32
  let v689 : BitVec 32 := Scalar.muli v10 c4_i32_589
  let v690 : BitVec 32 := Scalar.addi c0_i32_590 v689
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_591 : BitVec 32 := 2#32
  let v691 : BitVec 32 := Scalar.muli v5 c2_i32_591
  let v692 : BitVec 32 := Scalar.addi v690 v691
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_592 : BitVec 32 := 1#32
  let v693 : BitVec 32 := Scalar.muli v8 c1_i32_592
  let v694 : BitVec 32 := Scalar.addi v692 v693
  v694.toNat
def k0_dev31 (d0 : Dev nD) : Nat :=
  let c0_i32_600 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_599 : BitVec 32 := 4#32
  let v701 : BitVec 32 := Scalar.muli v2 c4_i32_599
  let v702 : BitVec 32 := Scalar.addi c0_i32_600 v701
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_601 : BitVec 32 := 2#32
  let v703 : BitVec 32 := Scalar.muli v5 c2_i32_601
  let v704 : BitVec 32 := Scalar.addi v702 v703
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_602 : BitVec 32 := 1#32
  let v705 : BitVec 32 := Scalar.muli v11 c1_i32_602
  let v706 : BitVec 32 := Scalar.addi v704 v705
  v706.toNat
def k0_dev32 (d0 : Dev nD) : Nat :=
  let c0_i32_631 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_630 : BitVec 32 := 4#32
  let v734 : BitVec 32 := Scalar.muli v10 c4_i32_630
  let v735 : BitVec 32 := Scalar.addi c0_i32_631 v734
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_632 : BitVec 32 := 2#32
  let v736 : BitVec 32 := Scalar.muli v5 c2_i32_632
  let v737 : BitVec 32 := Scalar.addi v735 v736
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_633 : BitVec 32 := 1#32
  let v738 : BitVec 32 := Scalar.muli v8 c1_i32_633
  let v739 : BitVec 32 := Scalar.addi v737 v738
  v739.toNat
def k0_dev33 (d0 : Dev nD) : Nat :=
  let c0_i32_641 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_640 : BitVec 32 := 4#32
  let v746 : BitVec 32 := Scalar.muli v2 c4_i32_640
  let v747 : BitVec 32 := Scalar.addi c0_i32_641 v746
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_642 : BitVec 32 := 2#32
  let v748 : BitVec 32 := Scalar.muli v5 c2_i32_642
  let v749 : BitVec 32 := Scalar.addi v747 v748
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_643 : BitVec 32 := 1#32
  let v750 : BitVec 32 := Scalar.muli v11 c1_i32_643
  let v751 : BitVec 32 := Scalar.addi v749 v750
  v751.toNat
def k0_off4 (d0 : Dev nD) (c0_i32_664 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c4096_i32_663 : BitVec 32 := 4096#32
  let v773 : BitVec 32 := Scalar.muli v19 c4096_i32_663
  let v774 : BitVec 32 := Scalar.addi v773 c0_i32_664
  let c0_i32_666 : BitVec 32 := 0#32
  ![v774.toNat, 0]
def k0_off4_at (r : Fin 4) : BitVec 32 :=
  if r.val < 2 then
    if r.val < 1 then
      0#32
    else
      256#32
  else
    if r.val < 3 then
      3584#32
    else
      3840#32
def k0_dev34 (d0 : Dev nD) : Nat :=
  let c0_i32_672 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_671 : BitVec 32 := 4#32
  let v779 : BitVec 32 := Scalar.muli v10 c4_i32_671
  let v780 : BitVec 32 := Scalar.addi c0_i32_672 v779
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_673 : BitVec 32 := 2#32
  let v781 : BitVec 32 := Scalar.muli v5 c2_i32_673
  let v782 : BitVec 32 := Scalar.addi v780 v781
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_674 : BitVec 32 := 1#32
  let v783 : BitVec 32 := Scalar.muli v8 c1_i32_674
  let v784 : BitVec 32 := Scalar.addi v782 v783
  v784.toNat
def k0_off5 (d0 : Dev nD) (c0_i32_690 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4096_i32_689 : BitVec 32 := 4096#32
  let v801 : BitVec 32 := Scalar.muli v16 c4096_i32_689
  let v802 : BitVec 32 := Scalar.addi v801 c0_i32_690
  let c0_i32_692 : BitVec 32 := 0#32
  ![v802.toNat, 0]
def k0_off5_at (r : Fin 4) : BitVec 32 :=
  if r.val < 2 then
    if r.val < 1 then
      0#32
    else
      256#32
  else
    if r.val < 3 then
      3584#32
    else
      3840#32
def k0_dev35 (d0 : Dev nD) : Nat :=
  let c0_i32_714 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_713 : BitVec 32 := 4#32
  let v823 : BitVec 32 := Scalar.muli v10 c4_i32_713
  let v824 : BitVec 32 := Scalar.addi c0_i32_714 v823
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_715 : BitVec 32 := 2#32
  let v825 : BitVec 32 := Scalar.muli v5 c2_i32_715
  let v826 : BitVec 32 := Scalar.addi v824 v825
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_716 : BitVec 32 := 1#32
  let v827 : BitVec 32 := Scalar.muli v8 c1_i32_716
  let v828 : BitVec 32 := Scalar.addi v826 v827
  v828.toNat
def k0_off6 (d0 : Dev nD) (c512_i32_748 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c4096_i32_747 : BitVec 32 := 4096#32
  let v861 : BitVec 32 := Scalar.muli v19 c4096_i32_747
  let v862 : BitVec 32 := Scalar.addi v861 c512_i32_748
  let c0_i32_750 : BitVec 32 := 0#32
  ![v862.toNat, 0]
def k0_dev36 (d0 : Dev nD) : Nat :=
  let c0_i32_756 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_755 : BitVec 32 := 4#32
  let v867 : BitVec 32 := Scalar.muli v10 c4_i32_755
  let v868 : BitVec 32 := Scalar.addi c0_i32_756 v867
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_757 : BitVec 32 := 2#32
  let v869 : BitVec 32 := Scalar.muli v5 c2_i32_757
  let v870 : BitVec 32 := Scalar.addi v868 v869
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_758 : BitVec 32 := 1#32
  let v871 : BitVec 32 := Scalar.muli v8 c1_i32_758
  let v872 : BitVec 32 := Scalar.addi v870 v871
  v872.toNat
def k0_off7 (d0 : Dev nD) (c512_i32_774 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4096_i32_773 : BitVec 32 := 4096#32
  let v889 : BitVec 32 := Scalar.muli v16 c4096_i32_773
  let v890 : BitVec 32 := Scalar.addi v889 c512_i32_774
  let c0_i32_776 : BitVec 32 := 0#32
  ![v890.toNat, 0]
def k0_dev37 (d0 : Dev nD) : Nat :=
  let c0_i32_798 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_797 : BitVec 32 := 4#32
  let v911 : BitVec 32 := Scalar.muli v10 c4_i32_797
  let v912 : BitVec 32 := Scalar.addi c0_i32_798 v911
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_799 : BitVec 32 := 2#32
  let v913 : BitVec 32 := Scalar.muli v5 c2_i32_799
  let v914 : BitVec 32 := Scalar.addi v912 v913
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_800 : BitVec 32 := 1#32
  let v915 : BitVec 32 := Scalar.muli v8 c1_i32_800
  let v916 : BitVec 32 := Scalar.addi v914 v915
  v916.toNat
def k0_dev38 (d0 : Dev nD) : Nat :=
  let c0_i32_840 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_839 : BitVec 32 := 4#32
  let v955 : BitVec 32 := Scalar.muli v10 c4_i32_839
  let v956 : BitVec 32 := Scalar.addi c0_i32_840 v955
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_841 : BitVec 32 := 2#32
  let v957 : BitVec 32 := Scalar.muli v5 c2_i32_841
  let v958 : BitVec 32 := Scalar.addi v956 v957
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_842 : BitVec 32 := 1#32
  let v959 : BitVec 32 := Scalar.muli v8 c1_i32_842
  let v960 : BitVec 32 := Scalar.addi v958 v959
  v960.toNat
def k0_dev39 (d0 : Dev nD) : Nat :=
  let c0_i32_898 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_897 : BitVec 32 := 4#32
  let v1015 : BitVec 32 := Scalar.muli v2 c4_i32_897
  let v1016 : BitVec 32 := Scalar.addi c0_i32_898 v1015
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_899 : BitVec 32 := 2#32
  let v1017 : BitVec 32 := Scalar.muli v5 c2_i32_899
  let v1018 : BitVec 32 := Scalar.addi v1016 v1017
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_900 : BitVec 32 := 1#32
  let v1019 : BitVec 32 := Scalar.muli v11 c1_i32_900
  let v1020 : BitVec 32 := Scalar.addi v1018 v1019
  v1020.toNat
def k0_dev40 (d0 : Dev nD) : Nat :=
  let c0_i32_940 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_939 : BitVec 32 := 4#32
  let v1059 : BitVec 32 := Scalar.muli v2 c4_i32_939
  let v1060 : BitVec 32 := Scalar.addi c0_i32_940 v1059
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_941 : BitVec 32 := 2#32
  let v1061 : BitVec 32 := Scalar.muli v5 c2_i32_941
  let v1062 : BitVec 32 := Scalar.addi v1060 v1061
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_942 : BitVec 32 := 1#32
  let v1063 : BitVec 32 := Scalar.muli v11 c1_i32_942
  let v1064 : BitVec 32 := Scalar.addi v1062 v1063
  v1064.toNat
def k0_dev41 (d0 : Dev nD) : Nat :=
  let c0_i32_982 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_981 : BitVec 32 := 4#32
  let v1103 : BitVec 32 := Scalar.muli v2 c4_i32_981
  let v1104 : BitVec 32 := Scalar.addi c0_i32_982 v1103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_983 : BitVec 32 := 2#32
  let v1105 : BitVec 32 := Scalar.muli v5 c2_i32_983
  let v1106 : BitVec 32 := Scalar.addi v1104 v1105
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_984 : BitVec 32 := 1#32
  let v1107 : BitVec 32 := Scalar.muli v11 c1_i32_984
  let v1108 : BitVec 32 := Scalar.addi v1106 v1107
  v1108.toNat
def k0_dev42 (d0 : Dev nD) : Nat :=
  let c0_i32_1024 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1023 : BitVec 32 := 4#32
  let v1147 : BitVec 32 := Scalar.muli v2 c4_i32_1023
  let v1148 : BitVec 32 := Scalar.addi c0_i32_1024 v1147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1025 : BitVec 32 := 2#32
  let v1149 : BitVec 32 := Scalar.muli v5 c2_i32_1025
  let v1150 : BitVec 32 := Scalar.addi v1148 v1149
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1026 : BitVec 32 := 1#32
  let v1151 : BitVec 32 := Scalar.muli v11 c1_i32_1026
  let v1152 : BitVec 32 := Scalar.addi v1150 v1151
  v1152.toNat
def k0_dev43 (d0 : Dev nD) : Nat :=
  let c0_i32_1066 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1065 : BitVec 32 := 4#32
  let v1191 : BitVec 32 := Scalar.muli v2 c4_i32_1065
  let v1192 : BitVec 32 := Scalar.addi c0_i32_1066 v1191
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1067 : BitVec 32 := 2#32
  let v1193 : BitVec 32 := Scalar.muli v5 c2_i32_1067
  let v1194 : BitVec 32 := Scalar.addi v1192 v1193
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1068 : BitVec 32 := 1#32
  let v1195 : BitVec 32 := Scalar.muli v11 c1_i32_1068
  let v1196 : BitVec 32 := Scalar.addi v1194 v1195
  v1196.toNat
def k0_off8 (d0 : Dev nD) (c0_i32_1083 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c4096_i32_1082 : BitVec 32 := 4096#32
  let v1213 : BitVec 32 := Scalar.muli v23 c4096_i32_1082
  let v1214 : BitVec 32 := Scalar.addi v1213 c0_i32_1083
  let c0_i32_1085 : BitVec 32 := 0#32
  ![v1214.toNat, 0]
def k0_off8_at (r : Fin 4) : BitVec 32 :=
  if r.val < 2 then
    if r.val < 1 then
      0#32
    else
      256#32
  else
    if r.val < 3 then
      3584#32
    else
      3840#32
def k0_off9 (d0 : Dev nD) (c2048_i32_1099 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c4096_i32_1098 : BitVec 32 := 4096#32
  let v1229 : BitVec 32 := Scalar.muli v23 c4096_i32_1098
  let v1230 : BitVec 32 := Scalar.addi v1229 c2048_i32_1099
  let c0_i32_1101 : BitVec 32 := 0#32
  ![v1230.toNat, 0]
-- ==== ReferenceIdeal.lean ====
abbrev S32768x1024 : Shape := ⟨2, ![32768, 1024]⟩
abbrev S2x16384x1024 : Shape := ⟨3, ![2, 16384, 1024]⟩
abbrev S_ : Shape := ⟨0, ![]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S2x16384x1024, .bf16⟩
  | .hbm, ⟨3, _⟩ => ⟨S2x16384x1024, .f32⟩
  | .hbm, ⟨4, _⟩ => ⟨S_, .f32⟩
  | .hbm, ⟨5, _⟩ => ⟨S16384x1024, .f32⟩
  | .hbm, ⟨6, _⟩ => ⟨S16384x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Prog.lean ====
/-
The exchange kernel's body, written once over a chunk number.

The printed body is 294 operations in a row. Its text is six loops over the ten row chunks of a
device's quarter (and two over the five chunks of a half), and this module writes them as loops;
`body_eq` says that the printed body is this program. Every slice of the kernel is a block of whole
rows of a buffer with 1024 columns: `Cut R n` is such a block of `n` rows of `R`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Tactic

@[expose] public section

noncomputable section

namespace Cert.KernelIdeal.Exch

open Cert.KernelIdeal Cert.KernelIdeal.Gen
open Idealize.ShloMosaic
open Idealize.ShloMosaic.TcCoe
open Idealize.SL.Sem

variable {F : FTy → Type} [FloatOps F]

/-! ## Blocks of rows -/

/-- The shape of `n` rows of 1024 elements. -/
abbrev Rows (n : ℕ) : Shape := ⟨2, ![n, 1024]⟩

/-- A block of `n` whole rows of a buffer of `R` rows: its offset vector, in bounds, at an even row,
with an even number of rows (two bf16 rows share a word). -/
structure Cut (R n : ℕ) where
  off : Fin 2 → ℕ
  le : off 0 + n ≤ R
  col : off 1 = 0
  even : 2 ∣ off 0
  even' : 2 ∣ n
  pos : 0 < n

/-- The block's rectangle lies in the buffer. -/
theorem Cut.inb {R n : ℕ} (b : Cut R n) : ∀ a : Fin 2, b.off a + ![n, 1024] a ≤ ![R, 1024] a := by
  intro a
  match a with
  | 0 => exact b.le
  | 1 => have := b.col; show b.off 1 + 1024 ≤ 1024; omega

/-- The block's rectangle. -/
abbrev Cut.rect {R n : ℕ} (b : Cut R n) : Rect (Rows R) := Rect.unit (s := Rows R) b.off ![n, 1024] b.inb

/-- A block at an even row is whole packed rows at packing two. -/
theorem Cut.packed {R n : ℕ} (b : Cut R n) : b.rect.PackedRows 2 :=
  .inr ⟨Nat.le_refl 2, rfl, .inl ⟨b.even, b.even'⟩⟩

/-- The rows of a buffer under a block. -/
abbrev cut {sp : Space} {e : EltTy} {R n : ℕ} (M : Memref sig .tc sp (Rows R) e) (b : Cut R n) : Memref sig .tc sp (Rows n) e :=
  M.slice b.rect (fun _ => rfl)

/-- A block of a whole bf16 buffer splits no word. -/
theorem cut_exact {sp : Space} {R n : ℕ} {M : Memref sig .tc sp (Rows R) .bf16} (h : M.IsWhole)
    (hl : Kind.statesLayout .tc sp = true) (b : Cut R n) : (cut M b).view.WordExact :=
  h.wordExact_slice hl _ b.packed.wholeWords

/-- A block of an f32 buffer splits no word. -/
theorem cut_exact32 {sp : Space} {R n : ℕ} (M : Memref sig .tc sp (Rows R) .f32) (b : Cut R n) : (cut M b).view.WordExact :=
  View.wordExact_bits rfl

/-- A block has an element. -/
theorem Cut.numel_pos {R n : ℕ} (b : Cut R n) : 0 < (Rows n).numel := by
  have h : (Rows n).numel = n * 1024 := by simp [Shape.numel, Fin.prod_univ_two]
  have := b.pos
  omega

/-! ## The buffers -/

abbrev bx : Memref sig .tc .hbm (Rows 16384) .f32 := Memref.whole main_arg0
abbrev bo : Memref sig .tc .hbm (Rows 16384) .bf16 := Memref.whole main_v1
abbrev bs : Memref sig .tc .vmem (Rows 4096) .bf16 := Memref.whole cc0_scratch0
abbrev by' : Memref sig .tc .vmem (Rows 4096) .bf16 := Memref.whole cc0_scratch1
abbrev bxr : Memref sig .tc .vmem (Rows 4096) .bf16 := Memref.whole cc0_scratch2
abbrev bzr : Memref sig .tc .vmem (Rows 4096) .bf16 := Memref.whole cc0_scratch3
abbrev bdx : Memref sig .tc .vmem (Rows 2048) .bf16 := Memref.whole cc0_scratch4
abbrev bdz : Memref sig .tc .vmem (Rows 2048) .bf16 := Memref.whole cc0_scratch5
abbrev bf : Memref sig .tc .vmem (Rows 1024) .f32 := Memref.whole cc0_scratch6

theorem whole_bo : bo.IsWhole := Memref.isWhole_whole _
theorem whole_bs : bs.IsWhole := Memref.isWhole_whole _
theorem whole_by : by'.IsWhole := Memref.isWhole_whole _
theorem whole_bxr : bxr.IsWhole := Memref.isWhole_whole _
theorem whole_bzr : bzr.IsWhole := Memref.isWhole_whole _
theorem whole_bdx : bdx.IsWhole := Memref.isWhole_whole _
theorem whole_bdz : bdz.IsWhole := Memref.isWhole_whole _

/-! ## The chunks: first row and number of rows -/

/-- The rows of chunk `c`. -/
def SZ : Fin 10 → ℕ
  | 0 => 256 | 1 => 256 | 2 => 512 | 3 => 512 | 4 => 512 | 5 => 512 | 6 => 512 | 7 => 512 | 8 => 256 | 9 => 256

/-- The first row of chunk `c` within a quarter. -/
def ST : Fin 10 → ℕ
  | 0 => 0 | 1 => 256 | 2 => 512 | 3 => 1024 | 4 => 1536 | 5 => 2048 | 6 => 2560 | 7 => 3072 | 8 => 3584 | 9 => 3840

/-- Chunk `j` of the first half, and of the second half. -/
def lo (j : Fin 5) : Fin 10 := ⟨j, by omega⟩
def hi (j : Fin 5) : Fin 10 := ⟨5 + j, by omega⟩

theorem ST_le (c : Fin 10) : ST c + SZ c ≤ 4096 := by revert c; decide
theorem ST_even (c : Fin 10) : 2 ∣ ST c := by revert c; decide
theorem SZ_even (c : Fin 10) : 2 ∣ SZ c := by revert c; decide
theorem SZ_pos (c : Fin 10) : 0 < SZ c := by revert c; decide
theorem SZ_le (c : Fin 10) : SZ c ≤ 512 := by revert c; decide
theorem lo_le (j : Fin 5) : ST (lo j) + SZ (lo j) ≤ 2048 := by revert j; decide
theorem hi_le (j : Fin 5) : ST (hi j) - 2048 + SZ (hi j) ≤ 2048 := by revert j; decide
theorem hi_ge (j : Fin 5) : 2048 ≤ ST (hi j) := by revert j; decide

/-- Chunk `c` of a quarter's 4096 rows. -/
def ck (c : Fin 10) : Cut 4096 (SZ c) := ⟨![ST c, 0], ST_le c, rfl, ST_even c, SZ_even c, SZ_pos c⟩

/-- Chunk `j` of the first half, and chunk `5 + j` in the second half's 2048 rows. -/
def ckLo (j : Fin 5) : Cut 2048 (SZ (lo j)) := ⟨![ST (lo j), 0], lo_le j, rfl, ST_even _, SZ_even _, SZ_pos _⟩
def ckHi (j : Fin 5) : Cut 2048 (SZ (hi j)) :=
  ⟨![ST (hi j) - 2048, 0], hi_le j, rfl, by revert j; decide, SZ_even _, SZ_pos _⟩

/-- The slot of the two-slot f32 buffer that chunk `c` passes through. -/
def slot (c : Fin 10) : Cut 1024 (SZ c) :=
  ⟨![(c.val % 2) * 512, 0], by revert c; decide, rfl, by revert c; decide, SZ_even c, SZ_pos c⟩

/-! ## The offsets within the device's block of 16384 rows, as the program computes them -/

/-- The offsets that the program computes for chunk `c` of its own quarter: of its input and its output. -/
def offOwn (d : Dev nD) : Fin 10 → Fin 2 → ℕ
  | 0 => k0_off2 d 0#32 | 1 => k0_off2 d 256#32 | 2 => k0_off3 d 512#32 | 3 => k0_off3 d 1024#32 | 4 => k0_off3 d 1536#32
  | 5 => k0_off3 d 2048#32 | 6 => k0_off3 d 2560#32 | 7 => k0_off3 d 3072#32 | 8 => k0_off2 d 3584#32 | 9 => k0_off2 d 3840#32

/-- The same of the first copy of the input, which the program writes without a chunk's constant. -/
def offFirst (d : Dev nD) : Fin 2 → ℕ := k0_off1 d

/-- The offsets of chunk `c` of the quarter of the neighbour along `z`, -/
def offZ (d : Dev nD) : Fin 10 → Fin 2 → ℕ
  | 0 => k0_off4 d 0#32 | 1 => k0_off4 d 256#32 | 2 => k0_off6 d 512#32 | 3 => k0_off6 d 1024#32 | 4 => k0_off6 d 1536#32
  | 5 => k0_off6 d 2048#32 | 6 => k0_off6 d 2560#32 | 7 => k0_off6 d 3072#32 | 8 => k0_off4 d 3584#32 | 9 => k0_off4 d 3840#32

/-- of the quarter of the neighbour along `x`, -/
def offX (d : Dev nD) : Fin 10 → Fin 2 → ℕ
  | 0 => k0_off5 d 0#32 | 1 => k0_off5 d 256#32 | 2 => k0_off7 d 512#32 | 3 => k0_off7 d 1024#32 | 4 => k0_off7 d 1536#32
  | 5 => k0_off7 d 2048#32 | 6 => k0_off7 d 2560#32 | 7 => k0_off7 d 3072#32 | 8 => k0_off5 d 3584#32 | 9 => k0_off5 d 3840#32

/-- and of the quarter of the neighbour across the diagonal. -/
def offD (d : Dev nD) : Fin 10 → Fin 2 → ℕ
  | 0 => k0_off8 d 0#32 | 1 => k0_off8 d 256#32 | 2 => k0_off9 d 512#32 | 3 => k0_off9 d 1024#32 | 4 => k0_off9 d 1536#32
  | 5 => k0_off9 d 2048#32 | 6 => k0_off9 d 2560#32 | 7 => k0_off9 d 3072#32 | 8 => k0_off8 d 3584#32 | 9 => k0_off8 d 3840#32

/-! ## The mesh: device `4x + 2y + z` -/

/-- The neighbours along `x`, `y`, `z`. -/
def nx (d : Dev nD) : Dev nD := ⟨(d.val + 4) % 8, by have : nD = 8 := rfl; omega⟩
def ny (d : Dev nD) : Dev nD := ⟨if d.val % 4 < 2 then d.val + 2 else d.val - 2, by have : nD = 8 := rfl; have := d.2; split <;> omega⟩
def nz (d : Dev nD) : Dev nD := ⟨if d.val % 2 = 0 then d.val + 1 else d.val - 1, by have : nD = 8 := rfl; have := d.2; split <;> omega⟩

/-- The first row of the quarter that device `d` reduces: quarter `2x + z`. -/
def qr (d : Dev nD) : ℕ := (2 * (d.val / 4) + d.val % 2) * 4096

theorem qr_le (d : Dev nD) : qr d + 4096 ≤ 16384 := by revert d; decide
theorem qr_even (d : Dev nD) : 2 ∣ qr d := by revert d; decide

theorem offOwn_at : ∀ (d : Dev nD) (c : Fin 10), offOwn d c 0 = qr d + ST c ∧ offOwn d c 1 = 0 := by decide +kernel
theorem offFirst_at : ∀ (d : Dev nD), offFirst d 0 = qr d + ST 0 ∧ offFirst d 1 = 0 := by decide +kernel
theorem offZ_at : ∀ (d : Dev nD) (c : Fin 10), offZ d c 0 = qr (nz d) + ST c ∧ offZ d c 1 = 0 := by decide +kernel
theorem offX_at : ∀ (d : Dev nD) (c : Fin 10), offX d c 0 = qr (nx d) + ST c ∧ offX d c 1 = 0 := by decide +kernel
theorem offD_at : ∀ (d : Dev nD) (c : Fin 10), offD d c 0 = qr (nx (nz d)) + ST c ∧ offD d c 1 = 0 := by decide +kernel

/-- A chunk of a quarter's rows within the block of 16384 rows, from the row that its offset computes. -/
def ckOf (off : Fin 2 → ℕ) (d : Dev nD) (c : Fin 10) (h : off 0 = qr d + ST c ∧ off 1 = 0) : Cut 16384 (SZ c) :=
  ⟨off, by have := ST_le c; have := qr_le d; omega, h.2, by rw [h.1]; exact Nat.dvd_add (qr_even d) (ST_even c), SZ_even c, SZ_pos c⟩

def ckOwn (d : Dev nD) (c : Fin 10) : Cut 16384 (SZ c) := ckOf (offOwn d c) d c (offOwn_at d c)
def ckFirst (d : Dev nD) : Cut 16384 (SZ 0) := ckOf (offFirst d) d 0 (offFirst_at d)
def ckZ (d : Dev nD) (c : Fin 10) : Cut 16384 (SZ c) := ckOf (offZ d c) (nz d) c (offZ_at d c)
def ckX (d : Dev nD) (c : Fin 10) : Cut 16384 (SZ c) := ckOf (offX d c) (nx d) c (offX_at d c)
def ckD (d : Dev nD) (c : Fin 10) : Cut 16384 (SZ c) := ckOf (offD d c) (nx (nz d)) c (offD_at d c)

/-! ## The device numbers that the program computes -/

/-- The device that chunk `c` of the cast rows goes to, -/
def devY (d : Dev nD) : Fin 10 → ℕ
  | 0 => k0_dev4 d | 1 => k0_dev5 d | 2 => k0_dev6 d | 3 => k0_dev7 d | 4 => k0_dev8 d
  | 5 => k0_dev9 d | 6 => k0_dev10 d | 7 => k0_dev11 d | 8 => k0_dev12 d | 9 => k0_dev13 d

/-- those that chunk `c` of the reduced rows goes to, -/
def devX (d : Dev nD) : Fin 10 → ℕ
  | 0 => k0_dev14 d | 1 => k0_dev16 d | 2 => k0_dev18 d | 3 => k0_dev20 d | 4 => k0_dev22 d
  | 5 => k0_dev24 d | 6 => k0_dev26 d | 7 => k0_dev28 d | 8 => k0_dev30 d | 9 => k0_dev32 d
def devZ (d : Dev nD) : Fin 10 → ℕ
  | 0 => k0_dev15 d | 1 => k0_dev17 d | 2 => k0_dev19 d | 3 => k0_dev21 d | 4 => k0_dev23 d
  | 5 => k0_dev25 d | 6 => k0_dev27 d | 7 => k0_dev29 d | 8 => k0_dev31 d | 9 => k0_dev33 d

/-- and those that chunk `j` of each half is forwarded to. -/
def devFX (d : Dev nD) : Fin 5 → ℕ
  | 0 => k0_dev34 d | 1 => k0_dev35 d | 2 => k0_dev36 d | 3 => k0_dev37 d | 4 => k0_dev38 d
def devFZ (d : Dev nD) : Fin 5 → ℕ
  | 0 => k0_dev39 d | 1 => k0_dev40 d | 2 => k0_dev41 d | 3 => k0_dev42 d | 4 => k0_dev43 d

theorem devY_eq : ∀ (d : Dev nD) (c : Fin 10), devY d c = (ny d).val := by decide +kernel
theorem devX_eq : ∀ (d : Dev nD) (c : Fin 10), devX d c = (nx d).val := by decide +kernel
theorem devZ_eq : ∀ (d : Dev nD) (c : Fin 10), devZ d c = (nz d).val := by decide +kernel
theorem devFX_eq : ∀ (d : Dev nD) (j : Fin 5), devFX d j = (nx d).val := by decide +kernel
theorem devFZ_eq : ∀ (d : Dev nD) (j : Fin 5), devFZ d j = (nz d).val := by decide +kernel
theorem dev1_eq : ∀ (d : Dev nD), k0_dev1 d = (ny d).val := by decide +kernel
theorem dev2_eq : ∀ (d : Dev nD), k0_dev2 d = (nx d).val := by decide +kernel
theorem dev3_eq : ∀ (d : Dev nD), k0_dev3 d = (nz d).val := by decide +kernel

/-- The device of a number that is one. -/
abbrev devOf (n : ℕ) (e : Dev nD) (h : n = e.val) : Dev nD := ⟨n, by rw [h]; exact e.2⟩

theorem devOf_eq (n : ℕ) (e : Dev nD) (h : n = e.val) : devOf n e h = e := Fin.ext h

/-! ## The semaphores -/

def iLd (c : Fin 10) : DmaSem sig := ⟨c.val % 2, by revert c; decide⟩
def iYs (c : Fin 10) : DmaSem sig := ⟨2 + c.val, by revert c; decide⟩
def iYr (c : Fin 10) : DmaSem sig := ⟨12 + c.val, by revert c; decide⟩
def iXs (c : Fin 10) : DmaSem sig := ⟨22 + c.val, by revert c; decide⟩
def iXr (c : Fin 10) : DmaSem sig := ⟨32 + c.val, by revert c; decide⟩
def iZs (c : Fin 10) : DmaSem sig := ⟨42 + c.val, by revert c; decide⟩
def iZr (c : Fin 10) : DmaSem sig := ⟨52 + c.val, by revert c; decide⟩
def iFxs (j : Fin 5) : DmaSem sig := ⟨62 + j.val, by revert j; decide⟩
def iFxr (j : Fin 5) : DmaSem sig := ⟨67 + j.val, by revert j; decide⟩
def iFzs (j : Fin 5) : DmaSem sig := ⟨72 + j.val, by revert j; decide⟩
def iFzr (j : Fin 5) : DmaSem sig := ⟨77 + j.val, by revert j; decide⟩
def iOo (c : Fin 10) : DmaSem sig := ⟨82 + c.val, by revert c; decide⟩
def iOx (c : Fin 10) : DmaSem sig := ⟨92 + c.val, by revert c; decide⟩
def iOz (c : Fin 10) : DmaSem sig := ⟨102 + c.val, by revert c; decide⟩
def iOdx (j : Fin 5) : DmaSem sig := ⟨112 + j.val, by revert j; decide⟩
def iOdz (j : Fin 5) : DmaSem sig := ⟨117 + j.val, by revert j; decide⟩

/-- The runtime's barrier semaphore. -/
abbrev barS : Sem sig := (SemArray.scalar (sig.barrier 0 rfl) : Sems sig S_).sem

/-! ## The operations -/

/-- What a chunk's cast stores: the f32 rows rounded to bf16. -/
def castPay {n : ℕ} (v : Vec F (Rows n) .f32) : FVec F (Rows n) .bf16 :=
  shapeCast (Rows n) (truncf .bf16 v bitsLt_bf16_f32) rfl

/-- What a chunk's addition stores: the received rows plus the own ones. -/
def addPay {n : ℕ} (v v' : Vec F (Rows n) .bf16) : FVec F (Rows n) .bf16 :=
  shapeCast (Rows n) (addf v v') rfl

/-- The programs over one core's operations. -/
abbrev Pr (F : FTy → Type) : Type 1 := Prog (TpuEff nD τ sig (Elt F) Λ₀ .tc) PUnit

/-- `f 0`, then `f 1`, and so on. -/
def loop : (n : ℕ) → (Fin n → Pr F) → Pr F
  | 0, _ => pure ⟨⟩
  | n + 1, f => f 0 >>= fun _ => loop n fun i => f i.succ

/-- The chunk after `c`. -/
def nxt (c : Fin 10) : Option (Fin 10) := if h : c.val + 1 < 10 then some ⟨c.val + 1, h⟩ else none

/-! ## The six phases -/

/-- Start the copy of chunk `c`'s input rows into its slot. -/
def pLoad (c : Fin 10) (b : Cut 16384 (SZ c)) : Pr F :=
  Prog.lift (.enqueueDma (cut bx b) (.here (cut bf (slot c))) (.dma (iLd c)) (cut_exact32 bx _) (cut_exact32 bf _) ⟨Or.inl rfl, trivial⟩)

/-- Start the copy of the next chunk's, if there is one. -/
def pNext (d : Dev nD) (c : Fin 10) : Pr F :=
  match nxt c with
  | some c' => pLoad c' (ckOwn d c')
  | none => pure ⟨⟩

/-- A chunk's input rows are waited for, the next chunk's started, the rows cast, stored and sent along `y`. -/
def pA (d : Dev nD) (c : Fin 10) : Pr F := do
  Prog.lift (.waitDma2 (iLd c) (cut bx (ckOwn d c)) (cut bf (slot c)) (cut_exact32 bx _) (cut_exact32 bf _))
  pNext d c
  let v ← Prog.lift (.load bf (slot c).rect.toLoadRect (View.loadsAt_vmem (slot c).numel_pos))
  let _ ← Prog.lift (.load bs (ck c).rect.toLoadRect (View.loadsAt_vmem (ck c).numel_pos))
  Prog.lift (.store bs (ck c).rect (castPay v) Finset.univ
    (View.stores_vmem (ck c).numel_pos (whole_bs.storeExact_slice rfl _ (ck c).packed) (fun _ => rfl)) (.inl rfl))
  Prog.lift (.enqueueDma (cut bs (ck c)) (.remote (Dev.tc (devOf (devY d c) (ny d) (devY_eq d c))) (cut by' (ck c)) (.dma (iYs c)))
    (.dma (iYr c)) (cut_exact whole_bs rfl _) (cut_exact whole_by rfl _) ⟨⟨rfl, Or.inl rfl⟩, trivial⟩)

/-- A chunk's rows from along `y` are waited for, the own ones added, the sum sent along `x` and along `z` and copied out. -/
def pB (d : Dev nD) (c : Fin 10) : Pr F := do
  Prog.lift (.waitDma2 (iYr c) (cut bs (ck c)) (cut by' (ck c)) (cut_exact whole_bs rfl _) (cut_exact whole_by rfl _))
  let v ← Prog.lift (.load by' (ck c).rect.toLoadRect (View.loadsAt_vmem (ck c).numel_pos))
  let v' ← Prog.lift (.load bs (ck c).rect.toLoadRect (View.loadsAt_vmem (ck c).numel_pos))
  let _ ← Prog.lift (.load by' (ck c).rect.toLoadRect (View.loadsAt_vmem (ck c).numel_pos))
  Prog.lift (.store by' (ck c).rect (addPay v v') Finset.univ
    (View.stores_vmem (ck c).numel_pos (whole_by.storeExact_slice rfl _ (ck c).packed) (fun _ => rfl)) (.inl rfl))
  Prog.lift (.enqueueDma (cut by' (ck c)) (.remote (Dev.tc (devOf (devX d c) (nx d) (devX_eq d c))) (cut bxr (ck c)) (.dma (iXs c)))
    (.dma (iXr c)) (cut_exact whole_by rfl _) (cut_exact whole_bxr rfl _) ⟨⟨rfl, Or.inl rfl⟩, trivial⟩)
  Prog.lift (.enqueueDma (cut by' (ck c)) (.remote (Dev.tc (devOf (devZ d c) (nz d) (devZ_eq d c))) (cut bzr (ck c)) (.dma (iZs c)))
    (.dma (iZr c)) (cut_exact whole_by rfl _) (cut_exact whole_bzr rfl _) ⟨⟨rfl, Or.inl rfl⟩, trivial⟩)
  Prog.lift (.enqueueDma (cut by' (ck c)) (.here (cut bo (ckOwn d c))) (.dma (iOo c)) (cut_exact whole_by rfl _)
    (cut_exact whole_bo rfl _) ⟨Or.inl rfl, trivial⟩)

/-- A chunk's rows from along `z` are waited for and copied out, -/
def pCz (d : Dev nD) (c : Fin 10) : Pr F := do
  Prog.lift (.waitDma2 (iZr c) (cut by' (ck c)) (cut bzr (ck c)) (cut_exact whole_by rfl _) (cut_exact whole_bzr rfl _))
  Prog.lift (.enqueueDma (cut bzr (ck c)) (.here (cut bo (ckZ d c))) (.dma (iOz c)) (cut_exact whole_bzr rfl _)
    (cut_exact whole_bo rfl _) ⟨Or.inl rfl, trivial⟩)

/-- and its rows from along `x` likewise. -/
def pCx (d : Dev nD) (c : Fin 10) : Pr F := do
  Prog.lift (.waitDma2 (iXr c) (cut by' (ck c)) (cut bxr (ck c)) (cut_exact whole_by rfl _) (cut_exact whole_bxr rfl _))
  Prog.lift (.enqueueDma (cut bxr (ck c)) (.here (cut bo (ckX d c))) (.dma (iOx c)) (cut_exact whole_bxr rfl _)
    (cut_exact whole_bo rfl _) ⟨Or.inl rfl, trivial⟩)

/-- In the first half the rows from along `z` are forwarded along `x`; -/
def pClo (d : Dev nD) (j : Fin 5) : Pr F := do
  pCz d (lo j)
  Prog.lift (.enqueueDma (cut bzr (ck (lo j))) (.remote (Dev.tc (devOf (devFX d j) (nx d) (devFX_eq d j))) (cut bdx (ckLo j)) (.dma (iFxs j)))
    (.dma (iFxr j)) (cut_exact whole_bzr rfl _) (cut_exact whole_bdx rfl _) ⟨⟨rfl, Or.inl rfl⟩, trivial⟩)
  pCx d (lo j)

/-- in the second half those from along `x` are forwarded along `z`. -/
def pChi (d : Dev nD) (j : Fin 5) : Pr F := do
  pCz d (hi j)
  pCx d (hi j)
  Prog.lift (.enqueueDma (cut bxr (ck (hi j))) (.remote (Dev.tc (devOf (devFZ d j) (nz d) (devFZ_eq d j))) (cut bdz (ckHi j)) (.dma (iFzs j)))
    (.dma (iFzr j)) (cut_exact whole_bxr rfl _) (cut_exact whole_bdz rfl _) ⟨⟨rfl, Or.inl rfl⟩, trivial⟩)

/-- The forwarded rows of both halves are waited for and copied out. -/
def pD (d : Dev nD) (j : Fin 5) : Pr F := do
  Prog.lift (.waitDma2 (iFxr j) (cut bzr (ck (lo j))) (cut bdx (ckLo j)) (cut_exact whole_bzr rfl _) (cut_exact whole_bdx rfl _))
  Prog.lift (.enqueueDma (cut bdx (ckLo j)) (.here (cut bo (ckD d (lo j)))) (.dma (iOdx j)) (cut_exact whole_bdx rfl _)
    (cut_exact whole_bo rfl _) ⟨Or.inl rfl, trivial⟩)
  Prog.lift (.waitDma2 (iFzr j) (cut bxr (ck (hi j))) (cut bdz (ckHi j)) (cut_exact whole_bxr rfl _) (cut_exact whole_bdz rfl _))
  Prog.lift (.enqueueDma (cut bdz (ckHi j)) (.here (cut bo (ckD d (hi j)))) (.dma (iOdz j)) (cut_exact whole_bdz rfl _)
    (cut_exact whole_bo rfl _) ⟨Or.inl rfl, trivial⟩)

/-- The sends and the copies out of a chunk are waited for. -/
def pE (d : Dev nD) (c : Fin 10) : Pr F := do
  Prog.lift (.waitDma2 (iYs c) (cut by' (ck c)) (cut bs (ck c)) (cut_exact whole_by rfl _) (cut_exact whole_bs rfl _))
  Prog.lift (.waitDma2 (iXs c) (cut bxr (ck c)) (cut by' (ck c)) (cut_exact whole_bxr rfl _) (cut_exact whole_by rfl _))
  Prog.lift (.waitDma2 (iZs c) (cut bzr (ck c)) (cut by' (ck c)) (cut_exact whole_bzr rfl _) (cut_exact whole_by rfl _))
  Prog.lift (.waitDma2 (iOo c) (cut by' (ck c)) (cut bo (ckOwn d c)) (cut_exact whole_by rfl _) (cut_exact whole_bo rfl _))
  Prog.lift (.waitDma2 (iOz c) (cut bzr (ck c)) (cut bo (ckZ d c)) (cut_exact whole_bzr rfl _) (cut_exact whole_bo rfl _))
  Prog.lift (.waitDma2 (iOx c) (cut bxr (ck c)) (cut bo (ckX d c)) (cut_exact whole_bxr rfl _) (cut_exact whole_bo rfl _))

/-- The forwards and the copies out of the forwarded rows are waited for. -/
def pF (d : Dev nD) (j : Fin 5) : Pr F := do
  Prog.lift (.waitDma2 (iFxs j) (cut bdx (ckLo j)) (cut bzr (ck (lo j))) (cut_exact whole_bdx rfl _) (cut_exact whole_bzr rfl _))
  Prog.lift (.waitDma2 (iOdx j) (cut bdx (ckLo j)) (cut bo (ckD d (lo j))) (cut_exact whole_bdx rfl _) (cut_exact whole_bo rfl _))
  Prog.lift (.waitDma2 (iFzs j) (cut bdz (ckHi j)) (cut bxr (ck (hi j))) (cut_exact whole_bdz rfl _) (cut_exact whole_bxr rfl _))
  Prog.lift (.waitDma2 (iOdz j) (cut bdz (ckHi j)) (cut bo (ckD d (hi j))) (cut_exact whole_bdz rfl _) (cut_exact whole_bo rfl _))

/-- The entry: the three neighbours are told that this device is inside, the first chunk's copy is started,
and the three neighbours are waited for. -/
def pEntry (d : Dev nD) : Pr F := do
  semSignalWord (devOf (k0_dev1 d) (ny d) (dev1_eq d)) barS 1#32
  semSignalWord (devOf (k0_dev2 d) (nx d) (dev2_eq d)) barS 1#32
  semSignalWord (devOf (k0_dev3 d) (nz d) (dev3_eq d)) barS 1#32
  pLoad 0 (ckFirst d)
  semWaitWord barS 3#32

/-- The body. -/
def body : Pr F := do
  let d ← Prog.lift .deviceId
  pEntry d
  loop 10 (pA d)
  loop 10 (pB d)
  loop 5 (pClo d)
  loop 5 (pChi d)
  loop 5 (pD d)
  loop 10 (pE d)
  loop 5 (pF d)

set_option maxRecDepth 65536 in
set_option maxHeartbeats 4000000 in
/-- The printed body is this program, by unfolding. -/
theorem body_eq :
    cc0_body (F := F) (Memref.whole main_arg0) (Memref.isWhole_whole _) (Memref.whole main_v1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) cc0_scratch7 cc0_scratch8 cc0_scratch9 cc0_scratch10 cc0_scratch11
      cc0_scratch12 cc0_scratch13 cc0_scratch14 cc0_scratch15 cc0_scratch16 cc0_scratch17 cc0_scratch18 cc0_scratch19 cc0_scratch20
      cc0_scratch21 cc0_scratch22
    = body := by
  chain_rfl

end Cert.KernelIdeal.Exch

end
-- ==== Proof.Sched.lean ====
/-
The exchange's protocol: what each semaphore cell is handed, by whom, in which round.

A device holds one barrier cell and 122 DMA cells. Its barrier is signalled once by each of its three
neighbours, which thereby lend it the buffers it will copy into. Of the DMA cells two serve the copies
of the input through the two slots of the f32 buffer, five rounds each; every other cell has one copy.

    kind       who pays it                              what its landing hands to its device
    ld c       the device itself                        the slot with chunk c of the input; the input's rows back
    ys c       the device itself, by the send along y   half of the cast chunk back
    yr c       the neighbour along y                    that neighbour's cast chunk
    xs c, zs c the device itself, by its sends          a share of the reduced chunk back
    xr c, zr c the neighbours along x and z             their reduced chunks
    fxs, fzs   the device itself, by its forwards       half of the forwarded chunk back
    fxr, fzr   the neighbours along x and z             the reduced chunk of the device across the diagonal
    oo ox oz odx odz   the device itself                the result's rows written; the source's share back
-/
module

public import proofs.«01_k».proof.Proof.Prog
public import Idealize.ShloMosaic.Lib.Memref
public import Idealize.ShloMosaic.Lib.MemrefSat
public import Idealize.ShloMosaic.Lib.Rounds

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- Device `d` owns a memref's elements, at some contents. -/
def An (d : Dev nD) {sp : Space} {n : ℕ} {e : EltTy} (M : Memref sig .tc sp (Rows n) e) : sProp 𝕄 :=
  iprop(∃ X, ownsTc d M fullShare X)

omit [FloatOps F] in
instance An_storable (d : Dev nD) {sp : Space} {n : ℕ} {e : EltTy} (M : Memref sig .tc sp (Rows n) e) :
    BI.Storable (upEmb : UEmb _ 𝕄) (An (F := F) d M) := by unfold An; infer_instance

/-! ## The mesh -/

theorem nx_nx (d : Dev nD) : nx (nx d) = d := by revert d; decide
theorem ny_ny (d : Dev nD) : ny (ny d) = d := by revert d; decide
theorem nz_nz (d : Dev nD) : nz (nz d) = d := by revert d; decide
theorem nx_nz (d : Dev nD) : nx (nz d) = nz (nx d) := by revert d; decide

/-! ## The contents -/

/-- Chunk `c` of device `d`'s quarter of its input. -/
def xV (d : Dev nD) (c : Fin 10) : Vec F (Rows (SZ c)) .f32 :=
  (cut bx (ckOwn d c)).view.read (Elt F) (m ((d : Thread nD τ).loc main_arg0))

/-- The chunk cast. -/
def sV (d : Dev nD) (c : Fin 10) : Vec F (Rows (SZ c)) .bf16 := castPay (xV m d c)

/-- The chunk reduced: the cast chunk of the neighbour along `y` plus the own one. -/
def yV (d : Dev nD) (c : Fin 10) : Vec F (Rows (SZ c)) .bf16 := addPay (sV m (ny d) c) (sV m d c)

/-! ## The kinds of copies -/

inductive Kd
  | ld (c : Fin 10) | ys (c : Fin 10) | yr (c : Fin 10) | xs (c : Fin 10) | xr (c : Fin 10) | zs (c : Fin 10) | zr (c : Fin 10)
  | fxs (j : Fin 5) | fxr (j : Fin 5) | fzs (j : Fin 5) | fzr (j : Fin 5)
  | oo (c : Fin 10) | ox (c : Fin 10) | oz (c : Fin 10) | odx (j : Fin 5) | odz (j : Fin 5)
  deriving DecidableEq

/-- The copy that round `r` of DMA cell `i` is for. -/
def kd (i : DmaSem sig) (r : ℕ) : Kd :=
  if i.val < 2 then .ld ⟨(2 * r + i.val) % 10, Nat.mod_lt _ (by decide)⟩
  else if i.val < 12 then .ys ⟨(i.val - 2) % 10, Nat.mod_lt _ (by decide)⟩
  else if i.val < 22 then .yr ⟨(i.val - 12) % 10, Nat.mod_lt _ (by decide)⟩
  else if i.val < 32 then .xs ⟨(i.val - 22) % 10, Nat.mod_lt _ (by decide)⟩
  else if i.val < 42 then .xr ⟨(i.val - 32) % 10, Nat.mod_lt _ (by decide)⟩
  else if i.val < 52 then .zs ⟨(i.val - 42) % 10, Nat.mod_lt _ (by decide)⟩
  else if i.val < 62 then .zr ⟨(i.val - 52) % 10, Nat.mod_lt _ (by decide)⟩
  else if i.val < 67 then .fxs ⟨(i.val - 62) % 5, Nat.mod_lt _ (by decide)⟩
  else if i.val < 72 then .fxr ⟨(i.val - 67) % 5, Nat.mod_lt _ (by decide)⟩
  else if i.val < 77 then .fzs ⟨(i.val - 72) % 5, Nat.mod_lt _ (by decide)⟩
  else if i.val < 82 then .fzr ⟨(i.val - 77) % 5, Nat.mod_lt _ (by decide)⟩
  else if i.val < 92 then .oo ⟨(i.val - 82) % 10, Nat.mod_lt _ (by decide)⟩
  else if i.val < 102 then .ox ⟨(i.val - 92) % 10, Nat.mod_lt _ (by decide)⟩
  else if i.val < 112 then .oz ⟨(i.val - 102) % 10, Nat.mod_lt _ (by decide)⟩
  else if i.val < 117 then .odx ⟨(i.val - 112) % 5, Nat.mod_lt _ (by decide)⟩
  else .odz ⟨(i.val - 117) % 5, Nat.mod_lt _ (by decide)⟩

/-- The rounds of DMA cell `i`. -/
def rounds (i : DmaSem sig) : ℕ := if i.val < 2 then 5 else 1

theorem kd_ld : ∀ c, kd (iLd c) (c.val / 2) = .ld c := by decide
theorem kd_ys : ∀ c, kd (iYs c) 0 = .ys c := by decide
theorem kd_yr : ∀ c, kd (iYr c) 0 = .yr c := by decide
theorem kd_xs : ∀ c, kd (iXs c) 0 = .xs c := by decide
theorem kd_xr : ∀ c, kd (iXr c) 0 = .xr c := by decide
theorem kd_zs : ∀ c, kd (iZs c) 0 = .zs c := by decide
theorem kd_zr : ∀ c, kd (iZr c) 0 = .zr c := by decide
theorem kd_fxs : ∀ j, kd (iFxs j) 0 = .fxs j := by decide
theorem kd_fxr : ∀ j, kd (iFxr j) 0 = .fxr j := by decide
theorem kd_fzs : ∀ j, kd (iFzs j) 0 = .fzs j := by decide
theorem kd_fzr : ∀ j, kd (iFzr j) 0 = .fzr j := by decide
theorem kd_oo : ∀ c, kd (iOo c) 0 = .oo c := by decide
theorem kd_ox : ∀ c, kd (iOx c) 0 = .ox c := by decide
theorem kd_oz : ∀ c, kd (iOz c) 0 = .oz c := by decide
theorem kd_odx : ∀ j, kd (iOdx j) 0 = .odx j := by decide
theorem kd_odz : ∀ j, kd (iOdz j) 0 = .odz j := by decide

/-- What a copy of `n` rows credits. -/
def crd (n : ℕ) (e : EltTy) : ℕ := RefSig.tileCredit (Rows n) e

theorem crd_cut {sp : Space} {e : EltTy} {R n : ℕ} (M : Memref sig .tc sp (Rows R) e) (b : Cut R n) :
    (cut M b).view.dmaCredit = crd n e := rfl

/-- What the copy of a kind credits. -/
def amt : Kd → ℕ
  | .ld c => crd (SZ c) .f32
  | .ys c | .yr c | .xs c | .xr c | .zs c | .zr c | .oo c | .ox c | .oz c => crd (SZ c) .bf16
  | .fxs j | .fxr j | .odx j => crd (SZ (lo j)) .bf16
  | .fzs j | .fzr j | .odz j => crd (SZ (hi j)) .bf16

theorem crd_pos (c : Fin 10) (e : EltTy) : 0 < crd (SZ c) e := RefSig.tileCredit_pos _ _ (ck c).numel_pos

theorem amt_pos (k : Kd) : 0 < amt k := by cases k <;> exact crd_pos _ _

/-- The half of a chunk that a send or a forward takes, and the half that stays; the shares of a
reduced chunk that the send along `x`, the send along `z` and the copy out take. -/
abbrev qL : PosShare TreeShare := fullShare.left
abbrev qR : PosShare TreeShare := fullShare.right
abbrev qRL : PosShare TreeShare := fullShare.right.left
abbrev qRR : PosShare TreeShare := fullShare.right.right

/-- What the copy of a kind hands to its device when it lands. -/
def pay (d : Dev nD) : Kd → sProp 𝕄
  | .ld c => iprop(ownsTc d (cut bf (slot c)) fullShare (xV m d c) ∗ ownsTc d (cut bx (ckOwn d c)) fullShare (xV m d c))
  | .ys c => ownsTc d (cut bs (ck c)) qL (sV m d c)
  | .yr c => ownsTc d (cut by' (ck c)) fullShare (sV m (ny d) c)
  | .xs c => ownsTc d (cut by' (ck c)) qL (yV m d c)
  | .zs c => ownsTc d (cut by' (ck c)) qRL (yV m d c)
  | .xr c => ownsTc d (cut bxr (ck c)) fullShare (yV m (nx d) c)
  | .zr c => ownsTc d (cut bzr (ck c)) fullShare (yV m (nz d) c)
  | .fxs j => ownsTc d (cut bzr (ck (lo j))) qR (yV m (nz d) (lo j))
  | .fxr j => ownsTc d (cut bdx (ckLo j)) fullShare (yV m (nx (nz d)) (lo j))
  | .fzs j => ownsTc d (cut bxr (ck (hi j))) qR (yV m (nx d) (hi j))
  | .fzr j => ownsTc d (cut bdz (ckHi j)) fullShare (yV m (nx (nz d)) (hi j))
  | .oo c => iprop(ownsTc d (cut bo (ckOwn d c)) fullShare (yV m d c) ∗ ownsTc d (cut by' (ck c)) qRR (yV m d c))
  | .ox c => iprop(ownsTc d (cut bo (ckX d c)) fullShare (yV m (nx d) c) ∗ ownsTc d (cut bxr (ck c)) qL (yV m (nx d) c))
  | .oz c => iprop(ownsTc d (cut bo (ckZ d c)) fullShare (yV m (nz d) c) ∗ ownsTc d (cut bzr (ck c)) qL (yV m (nz d) c))
  | .odx j => iprop(ownsTc d (cut bo (ckD d (lo j))) fullShare (yV m (nx (nz d)) (lo j))
      ∗ ownsTc d (cut bdx (ckLo j)) fullShare (yV m (nx (nz d)) (lo j)))
  | .odz j => iprop(ownsTc d (cut bo (ckD d (hi j))) fullShare (yV m (nx (nz d)) (hi j))
      ∗ ownsTc d (cut bdz (ckHi j)) fullShare (yV m (nx (nz d)) (hi j)))

section
variable (d : Dev nD)
theorem pay_ld (c : Fin 10) : pay m d (kd (iLd c) (c.val / 2))
    = iprop(ownsTc d (cut bf (slot c)) fullShare (xV m d c) ∗ ownsTc d (cut bx (ckOwn d c)) fullShare (xV m d c)) := by rw [kd_ld]; rfl
theorem pay_ys (c : Fin 10) : pay m d (kd (iYs c) 0)
    = ownsTc d (cut bs (ck c)) qL (sV m d c) := by rw [kd_ys]; rfl
theorem pay_yr (c : Fin 10) : pay m d (kd (iYr c) 0)
    = ownsTc d (cut by' (ck c)) fullShare (sV m (ny d) c) := by rw [kd_yr]; rfl
theorem pay_xs (c : Fin 10) : pay m d (kd (iXs c) 0)
    = ownsTc d (cut by' (ck c)) qL (yV m d c) := by rw [kd_xs]; rfl
theorem pay_zs (c : Fin 10) : pay m d (kd (iZs c) 0)
    = ownsTc d (cut by' (ck c)) qRL (yV m d c) := by rw [kd_zs]; rfl
theorem pay_xr (c : Fin 10) : pay m d (kd (iXr c) 0)
    = ownsTc d (cut bxr (ck c)) fullShare (yV m (nx d) c) := by rw [kd_xr]; rfl
theorem pay_zr (c : Fin 10) : pay m d (kd (iZr c) 0)
    = ownsTc d (cut bzr (ck c)) fullShare (yV m (nz d) c) := by rw [kd_zr]; rfl
theorem pay_fxs (j : Fin 5) : pay m d (kd (iFxs j) 0)
    = ownsTc d (cut bzr (ck (lo j))) qR (yV m (nz d) (lo j)) := by rw [kd_fxs]; rfl
theorem pay_fxr (j : Fin 5) : pay m d (kd (iFxr j) 0)
    = ownsTc d (cut bdx (ckLo j)) fullShare (yV m (nx (nz d)) (lo j)) := by rw [kd_fxr]; rfl
theorem pay_fzs (j : Fin 5) : pay m d (kd (iFzs j) 0)
    = ownsTc d (cut bxr (ck (hi j))) qR (yV m (nx d) (hi j)) := by rw [kd_fzs]; rfl
theorem pay_fzr (j : Fin 5) : pay m d (kd (iFzr j) 0)
    = ownsTc d (cut bdz (ckHi j)) fullShare (yV m (nx (nz d)) (hi j)) := by rw [kd_fzr]; rfl
theorem pay_oo (c : Fin 10) : pay m d (kd (iOo c) 0)
    = iprop(ownsTc d (cut bo (ckOwn d c)) fullShare (yV m d c) ∗ ownsTc d (cut by' (ck c)) qRR (yV m d c)) := by rw [kd_oo]; rfl
theorem pay_ox (c : Fin 10) : pay m d (kd (iOx c) 0)
    = iprop(ownsTc d (cut bo (ckX d c)) fullShare (yV m (nx d) c) ∗ ownsTc d (cut bxr (ck c)) qL (yV m (nx d) c)) := by rw [kd_ox]; rfl
theorem pay_oz (c : Fin 10) : pay m d (kd (iOz c) 0)
    = iprop(ownsTc d (cut bo (ckZ d c)) fullShare (yV m (nz d) c) ∗ ownsTc d (cut bzr (ck c)) qL (yV m (nz d) c)) := by rw [kd_oz]; rfl
theorem pay_odx (j : Fin 5) : pay m d (kd (iOdx j) 0)
    = iprop(ownsTc d (cut bo (ckD d (lo j))) fullShare (yV m (nx (nz d)) (lo j)) ∗ ownsTc d (cut bdx (ckLo j)) fullShare (yV m (nx (nz d)) (lo j))) := by rw [kd_odx]; rfl
theorem pay_odz (j : Fin 5) : pay m d (kd (iOdz j) 0)
    = iprop(ownsTc d (cut bo (ckD d (hi j))) fullShare (yV m (nx (nz d)) (hi j)) ∗ ownsTc d (cut bdz (ckHi j)) fullShare (yV m (nx (nz d)) (hi j))) := by rw [kd_odz]; rfl
end

section
variable (c : Fin 10) (j : Fin 5)
theorem amt_ld : amt (kd (iLd c) (c.val / 2)) = crd (SZ c) .f32 := by rw [kd_ld]; rfl
theorem amt_ys : amt (kd (iYs c) 0) = crd (SZ c) .bf16 := by rw [kd_ys]; rfl
theorem amt_yr : amt (kd (iYr c) 0) = crd (SZ c) .bf16 := by rw [kd_yr]; rfl
theorem amt_xs : amt (kd (iXs c) 0) = crd (SZ c) .bf16 := by rw [kd_xs]; rfl
theorem amt_zs : amt (kd (iZs c) 0) = crd (SZ c) .bf16 := by rw [kd_zs]; rfl
theorem amt_xr : amt (kd (iXr c) 0) = crd (SZ c) .bf16 := by rw [kd_xr]; rfl
theorem amt_zr : amt (kd (iZr c) 0) = crd (SZ c) .bf16 := by rw [kd_zr]; rfl
theorem amt_fxs : amt (kd (iFxs j) 0) = crd (SZ (lo j)) .bf16 := by rw [kd_fxs]; rfl
theorem amt_fxr : amt (kd (iFxr j) 0) = crd (SZ (lo j)) .bf16 := by rw [kd_fxr]; rfl
theorem amt_fzs : amt (kd (iFzs j) 0) = crd (SZ (hi j)) .bf16 := by rw [kd_fzs]; rfl
theorem amt_fzr : amt (kd (iFzr j) 0) = crd (SZ (hi j)) .bf16 := by rw [kd_fzr]; rfl
theorem amt_oo : amt (kd (iOo c) 0) = crd (SZ c) .bf16 := by rw [kd_oo]; rfl
theorem amt_ox : amt (kd (iOx c) 0) = crd (SZ c) .bf16 := by rw [kd_ox]; rfl
theorem amt_oz : amt (kd (iOz c) 0) = crd (SZ c) .bf16 := by rw [kd_oz]; rfl
theorem amt_odx : amt (kd (iOdx j) 0) = crd (SZ (lo j)) .bf16 := by rw [kd_odx]; rfl
theorem amt_odz : amt (kd (iOdz j) 0) = crd (SZ (hi j)) .bf16 := by rw [kd_odz]; rfl
end

instance pay_storable (d : Dev nD) (k : Kd) : BI.Storable (upEmb : UEmb _ 𝕄) (pay m d k) := by
  cases k <;> (unfold pay; infer_instance)

/-- The buffers that a device lends: to the neighbour along `y`, -/
def lendY (d : Dev nD) : sProp 𝕄 := bigSep Finset.univ fun c : Fin 10 => An d (cut by' (ck c))
/-- to the neighbour along `x`, -/
def lendX (d : Dev nD) : sProp 𝕄 :=
  iprop((bigSep Finset.univ fun c : Fin 10 => An d (cut bxr (ck c))) ∗ bigSep Finset.univ fun j : Fin 5 => An d (cut bdx (ckLo j)))
/-- and to the neighbour along `z`. -/
def lendZ (d : Dev nD) : sProp 𝕄 :=
  iprop((bigSep Finset.univ fun c : Fin 10 => An d (cut bzr (ck c))) ∗ bigSep Finset.univ fun j : Fin 5 => An d (cut bdz (ckHi j)))

/-- What the three signals of a device's barrier hand to it: the buffers that its neighbours lend. -/
def barPay (d : Dev nD) : Fin 3 → sProp 𝕄
  | 0 => lendY (ny d)
  | 1 => lendX (nx d)
  | 2 => lendZ (nz d)

omit [FloatOps F] in
instance barPay_storable (d : Dev nD) (k : Fin 3) : BI.Storable (upEmb : UEmb _ 𝕄) (barPay (F := F) d k) := by
  match k with
  | 0 => unfold barPay lendY; infer_instance
  | 1 => unfold barPay lendX; infer_instance
  | 2 => unfold barPay lendZ; infer_instance

/-! ## The schedule -/

def Rd : Rounds.Schedule (GSem nD τ sig) (Fin 3) 𝕄 where
  duties g r := if g.1.2 = .tc then
      (match g.2 with
        | .reg _ => if r = 0 then Finset.univ else ∅
        | .dma i => if r < rounds i then {0} else ∅)
    else ∅
  unitless _ := False
  amount g r _ := match g.2 with | .reg _ => 1 | .dma i => amt (kd i r)
  payload g r k := match g.2 with | .reg _ => barPay g.1.1 k | .dma i => pay m g.1.1 (kd i r)
  amount_pos g r _ _ := by
    match g.2 with
    | .reg _ => exact Nat.one_pos
    | .dma i => exact amt_pos _

instance Rd_storable (g : GSem nD τ sig) (r : ℕ) (k : Fin 3) : BI.Storable (upEmb : UEmb _ 𝕄) ((Rd m).payload g r k) := by
  show BI.Storable upEmb (match g.2 with | .reg _ => barPay g.1.1 k | .dma i => pay m g.1.1 (kd i r))
  match g.2 with
  | .reg _ => exact barPay_storable _ _
  | .dma i => exact pay_storable m _ _

/-- Device `d`'s cell of a semaphore. -/
abbrev cel (d : Dev nD) (i : DmaSem sig) : GSem nD τ sig := ((d : Thread nD τ), .dma i)
abbrev bar (d : Dev nD) : GSem nD τ sig := ((d : Thread nD τ), .reg barS)

section
variable (d : Dev nD) (i : DmaSem sig) (r : ℕ)

theorem duties_dma (h : r < rounds i) : (Rd m).duties (cel d i) r = {0} := by
  dsimp only [Rd]; rw [if_pos rfl, if_pos h]
theorem duties_dma_later (h : rounds i ≤ r) : (Rd m).duties (cel d i) r = ∅ := by
  dsimp only [Rd]; rw [if_pos rfl, if_neg (by omega)]
theorem duties_bar : (Rd m).duties (bar d) 0 = Finset.univ := by
  dsimp only [Rd]; rw [if_pos rfl, if_pos rfl]
theorem duties_bar_later (h : 1 ≤ r) : (Rd m).duties (bar d) r = ∅ := by
  dsimp only [Rd]; rw [if_pos rfl, if_neg (by omega)]
theorem expect_dma (h : r < rounds i) : (Rd m).expect (cel d i) r = amt (kd i r) := by
  unfold Schedule.expect Schedule.amountOf; rw [duties_dma m d i r h, Finset.sum_singleton]; rfl
theorem expect_bar : (Rd m).expect (bar d) 0 = 3 := by
  unfold Schedule.expect Schedule.amountOf; rw [duties_bar]; rfl
theorem rest_dma (h : r < rounds i) :
    bigSep ((Rd m).duties (cel d i) r \ ∅) (fun k => (Rd m).payload (cel d i) r k) = pay m d (kd i r) := by
  rw [Finset.sdiff_empty, duties_dma m d i r h, bigSep_singleton]; rfl
theorem rest_bar :
    bigSep ((Rd m).duties (bar d) 0 \ ∅) (fun k => (Rd m).payload (bar d) 0 k)
      = iprop(lendY (ny d) ∗ lendX (nx d) ∗ lendZ (nz d)) := by
  rw [Finset.sdiff_empty, duties_bar, bigSep_univ_eq_bigSepL [0, 1, 2] (by decide) (by decide), bigSepL_cons_cons, bigSepL_cons_cons,
    bigSepL_singleton]
  rfl
end

/-! ## Levels -/

/-- The levels: what a device waits for lies below all that it still owes. -/
def lvK : Kd → ℕ
  | .yr _ => 2
  | .xr _ | .zr _ => 3
  | .fxr _ | .fzr _ => 4
  | _ => 0

def lvS : SemLoc sig → ℕ
  | .reg _ => 1
  | .dma i => lvK (kd i 0)

def L (g : GSem nD τ sig) : Finset Unit := if g.1.2 = .tc then {()} else ∅
def lv (g : GSem nD τ sig) (_ : Unit) : ℕ := lvS g.2

/-- All that `O` owes lies above level `n`. -/
def Above (n : ℕ) (O : CellTallies nD τ sig Unit) : Prop := ∀ g u, 0 < O g u → g.1.2 = .tc ∧ n < lvS g.2

theorem Above.zero (n : ℕ) : Above n 0 := fun g u h => absurd h (Nat.lt_irrefl 0)

theorem Above.add {n : ℕ} {O O' : CellTallies nD τ sig Unit} (h : Above n O) (h' : Above n O') : Above n (O + O') := by
  intro g u hg
  rw [Pi.add_apply, Finsupp.add_apply] at hg
  by_cases h0 : 0 < O g u
  · exact h g u h0
  · exact h' g u (by omega)

theorem Above.tally {n : ℕ} {e : Dev nD} {s : SemLoc sig} {k : ℕ} (h : n < lvS s) : Above n (tallyAt ((e : Thread nD τ), s) () k) := by
  intro g u hg
  rw [tallyAt_apply] at hg
  by_cases hc : g = ((e : Thread nD τ), s) ∧ u = ()
  · rw [hc.1]; exact ⟨rfl, h⟩
  · rw [if_neg hc] at hg; exact absurd hg (Nat.lt_irrefl 0)

theorem Above.sum {n : ℕ} {ι : Type} (s : Finset ι) {f : ι → CellTallies nD τ sig Unit} (h : ∀ i ∈ s, Above n (f i)) : Above n (∑ i ∈ s, f i) := by
  classical
  induction s using Finset.induction_on with
  | empty => rw [Finset.sum_empty]; exact Above.zero n
  | insert a s ha ih =>
    rw [Finset.sum_insert ha]
    exact (h a (Finset.mem_insert_self _ _)).add (ih fun i hi => h i (Finset.mem_insert_of_mem hi))

theorem L_tc (d : Dev nD) (s : SemLoc sig) : L ((d : Thread nD τ), s) = {()} := if_pos rfl

omit [FloatOps F] in
/-- What lies above the level of a semaphore may be owed at a wait on it. -/
theorem mayWait (d : Dev nD) (s : SemLoc sig) {O : CellTallies nD τ sig Unit} (h : Above (lvS s) O) :
    (levAts L lv : sProp 𝕄) ⊢ MayWait (d : Thread nD τ) s () O :=
  MayOwe.of_cut (L := L) (lev := lv) (lvS s) (fun p hp => by rw [Finset.mem_singleton.mp hp, L_tc]; exact Finset.mem_singleton_self _)
    (fun g u hg => by rw [show L g = {()} from if_pos (h g u hg).1]; exact Finset.mem_singleton_self _)
    (fun p hp => by rw [Finset.mem_singleton.mp hp]; exact le_rfl)
    (fun g u hg => (h g u hg).2)

end Cert.KernelIdeal.Exch

end
-- ==== Proof.Rules.lean ====
/-
The rules of the exchange's operations, each in terms of what a device owns of a block of rows.
-/
module

public import proofs.«01_k».proof.Proof.Sched

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × SemLoc sig → ℕ) (d : Dev nD)

/-- The weakest precondition of a program of device `d`. -/
abbrev WP (p : Pr F) (Q : PUnit → sProp 𝕄) : sProp 𝕄 :=
  wp frame (wpE (defs₀ (F := F)) 𝒱₀ (d : Thread nD τ) none) Set.univ p Q

theorem WP_ret (a : PUnit) (Q : PUnit → sProp 𝕄) : WP d (.ret a) Q = iprop(|={Set.univ}=> Q a) := rfl

theorem WP_bind (p : Pr F) (k : PUnit → Pr F) (Q : PUnit → sProp 𝕄) : WP d (p >>= k) Q = WP d p (fun a => WP d (k a) Q) :=
  wp_bind _ _ _ p k Q

/-- The cell of a device and a semaphore. -/
abbrev gc (p : Dev nD × SemLoc sig) : GSem nD τ sig := ((p.1 : Thread nD τ), p.2)

omit [FloatOps F] in
theorem ent {P P' P'' : sProp 𝕄} (h : P ⊢ P') (h' : P' ⊢ P'') : P ⊢ P'' := h.trans h'

/-- The facts that every device may use again and again: the cells' invariants, round 0 reached, the levels. -/
def Rec : sProp 𝕄 :=
  iprop((bigSep Finset.univ fun p => cellInv ER (Rd m) (K p) (gc p)) ∗ (bigSep Finset.univ fun p => reached ER (gc p) 0) ∗ levAts L lv)

instance Rec_persistent : BI.Persistent (Rec m K) := by unfold Rec; infer_instance

theorem Rec_inv (p : Dev nD × SemLoc sig) : Rec m K ⊢ cellInv ER (Rd m) (K p) (gc p) := by
  refine ent (P' := bigSep Finset.univ fun p => cellInv ER (Rd m) (K p) (gc p)) ?_ (bigSep_elim (Finset.mem_univ p))
  unfold Rec; iintro ⟨H, -, -⟩; iexact H

theorem Rec_reached (p : Dev nD × SemLoc sig) : Rec m K ⊢ reached ER (gc p) 0 := by
  refine ent (P' := bigSep Finset.univ fun p => reached ER (gc p) 0) ?_ (bigSep_elim (Finset.mem_univ p))
  unfold Rec; iintro ⟨-, H, -⟩; iexact H

theorem Rec_lev : Rec m K ⊢ levAts L lv := by
  unfold Rec; iintro ⟨-, -, H⟩; iexact H

/-- Device `d` owes `O`. -/
def Ows (O : CellTallies nD τ sig Unit) : sProp 𝕄 := iprop(∃ W, owes (d : Thread nD τ) O W)

section Blocks

variable {sp sp' : Space} {e : EltTy} {R R' n : ℕ} {M : Memref sig .tc sp (Rows R) e} {M' : Memref sig .tc sp' (Rows R') e}
  {b : Cut R n} {b' : Cut R' n} {q : PosShare TreeShare} {X : (Rows n).Idx → Elt F e} {i : DmaSem sig} {r : ℕ}

/-- What a copy leaves at its source, and at its destination, is owned at the copied rows. -/
theorem landed_src {f : Buf (Elt F) ((cut M b).view.loc (d : Thread nD τ))} (hf : (cut M b).view.read (Elt F) f = X) {P : sProp 𝕄}
    (h : ownsTc d (cut M b) q X ⊢ P) : ((cut M b).view.loc (d : Thread nD τ) ↦[(cut M b).view.set]{q} f) ⊢ P := by
  refine ent ?_ h
  have H : ((cut M b).view.loc (d : Thread nD τ) ↦[(cut M b).view.set]{q} f : sProp 𝕄)
      ⊢ ownsTc d (cut M b) q ((cut M b).view.read (Elt F) f) := owns_intro (d : Thread nD τ) (cut M b) q f
  rw [hf] at H; exact H

theorem landed_dst {f : Buf (Elt F) ((cut M b).view.loc (d : Thread nD τ))} (hf : (cut M b).view.read (Elt F) f = X) (d' : Dev nD)
    {fd : Buf (Elt F) ((cut M' b').view.loc (d' : Thread nD τ))} {P : sProp 𝕄} (h : ownsTc d' (cut M' b') fullShare X ⊢ P) :
    ((cut M' b').view.loc (d' : Thread nD τ) ↦[(cut M' b').view.set]{fullShare}
      ((cut M' b').view.write (Elt F) fd ((cut M b).view.read (Elt F) f) Finset.univ)) ⊢ P := by
  refine ent ?_ h
  have H : ((cut M' b').view.loc (d' : Thread nD τ) ↦[(cut M' b').view.set]{fullShare}
        ((cut M' b').view.write (Elt F) fd ((cut M b).view.read (Elt F) f) Finset.univ) : sProp 𝕄)
      ⊢ ownsTc d' (cut M' b') fullShare ((cut M' b').view.read (Elt F) ((cut M' b').view.write (Elt F) fd ((cut M b).view.read (Elt F) f) Finset.univ)) :=
    owns_intro (d' : Thread nD τ) (cut M' b') fullShare _
  rw [View.read_write_univ] at H; subst hf; exact H

theorem landed_copy {f : Buf (Elt F) ((cut M b).view.loc (d : Thread nD τ))} (hf : (cut M b).view.read (Elt F) f = X)
    {fd : Buf (Elt F) ((cut M' b').view.loc (d : Thread nD τ))} {P : sProp 𝕄}
    (h : iprop(ownsTc d (cut M' b') fullShare X ∗ ownsTc d (cut M b) q X) ⊢ P) :
    iprop(((cut M' b').view.loc (d : Thread nD τ) ↦[(cut M' b').view.set]{fullShare}
      ((cut M' b').view.write (Elt F) fd ((cut M b).view.read (Elt F) f) Finset.univ))
      ∗ ((cut M b).view.loc (d : Thread nD τ) ↦[(cut M b).view.set]{q} f)) ⊢ P := by
  refine ent ?_ h
  iintro ⟨Hd, Hs⟩
  isplitl [Hd]
  · iapply (landed_dst d hf d (fd := fd) .rfl); iexact Hd
  · iapply (landed_src d hf .rfl); iexact Hs

/-- A local copy: it pays its cell's duty. -/
theorem wp_copy {h1 : (cut M b).view.WordExact} {h2 : (cut M' b').view.WordExact}
    {h3 : DmaTarget.Typed sp (.dma i) (.here (cut M' b') : DmaTarget nD τ sig .tc sp' (Rows n) e)} {k : PUnit → Pr F} {Q : PUnit → sProp 𝕄}
    (hr : r < rounds i) (hN : amt (kd i r) = crd n e)
    (hpay : iprop(ownsTc d (cut M' b') fullShare X ∗ ownsTc d (cut M b) q X) ⊢ pay m d (kd i r)) :
    iprop(Rec m K ∗ reached ER (cel d i) r ∗ ownsTc d (cut M b) q X ∗ An d (cut M' b') ∗ dutyTok ER (cel d i) r 0)
      ⊢ iprop((cred (tallyAt (cel d i) () (crd n e)) -∗ WP d (k ⟨⟩) Q)
          -∗ WP d (.op (.enqueueDma (cut M b) (.here (cut M' b')) (.dma i) h1 h2 h3) k) Q) := by
  unfold An
  iintro ⟨#HR, #Hre, Hs, ⟨%Y, Hd⟩, Ht⟩ Hk
  unfold ownsTc owns
  icases Hs with ⟨%f, %hf, Hs⟩
  icases Hd with ⟨%g, -, Hd⟩
  iapply (Rounds.wp_copy_pointsTo 𝒱₀ ER (Rd m) (d : Thread nD τ) none (κ := K (d, .dma i)) (r := r) (d := 0)
    (by rw [duties_dma m d i r hr]; exact Finset.mem_singleton_self _) () (crd n e) rfl (show (Rd m).amount (cel d i) r 0 = crd n e from hN)
    (landed_copy d hf (fd := g) hpay)) $$ [Hs Hd Ht]
  · isplitr; · iapply (Rec_inv m K (d, .dma i)); iexact HR
    isplitl [Hs]; · iexact Hs
    isplitl [Hd]; · iexact Hd
    isplitl [Ht]; · iexact Ht
    iexact Hre
  iexact Hk

/-- The same of a cell of one round. -/
theorem wp_copy1 {h1 : (cut M b).view.WordExact} {h2 : (cut M' b').view.WordExact}
    {h3 : DmaTarget.Typed sp (.dma i) (.here (cut M' b') : DmaTarget nD τ sig .tc sp' (Rows n) e)} {k : PUnit → Pr F} {Q : PUnit → sProp 𝕄}
    (hr : 0 < rounds i) (hN : amt (kd i 0) = crd n e)
    (hpay : iprop(ownsTc d (cut M' b') fullShare X ∗ ownsTc d (cut M b) q X) ⊢ pay m d (kd i 0)) :
    iprop(Rec m K ∗ ownsTc d (cut M b) q X ∗ An d (cut M' b') ∗ dutyTok ER (cel d i) 0 0)
      ⊢ iprop((cred (tallyAt (cel d i) () (crd n e)) -∗ WP d (k ⟨⟩) Q)
          -∗ WP d (.op (.enqueueDma (cut M b) (.here (cut M' b')) (.dma i) h1 h2 h3) k) Q) := by
  refine ent ?_ (wp_copy m K d hr hN hpay)
  iintro ⟨#HR, H⟩
  isplitr; · iexact HR
  isplitr; · iapply (Rec_reached m K (d, .dma i)); iexact HR
  iexact H

/-- A copy to a neighbour: it pays the duties of its own send cell and of the neighbour's receive cell. -/
theorem wp_send {nn e' : Dev nD} (hnn : nn = e') {i' : DmaSem sig}
    {hsc : (cut M' b').view.ref.isScScratch = false}
    {h1 : (cut M b).view.WordExact} {h2 : (cut M' b').view.WordExact}
    {h3 : DmaTarget.Typed sp (.dma i') (.remote (Dev.tc nn : Thread nD τ) (cut M' b') (.dma i) hsc : DmaTarget nD τ sig .tc sp' (Rows n) e)}
    {k : PUnit → Pr F} {Q : PUnit → sProp 𝕄}
    (hr : 0 < rounds i) (hr' : 0 < rounds i') (hN : amt (kd i 0) = crd n e) (hN' : amt (kd i' 0) = crd n e)
    (O : CellTallies nD τ sig Unit) {O₀ : CellTallies nD τ sig Unit} (hO : O₀ = O + tallyAt (cel e' i') () (crd n e))
    (hpay : ownsTc d (cut M b) q X ⊢ pay m d (kd i 0)) (hpay' : ownsTc e' (cut M' b') fullShare X ⊢ pay m e' (kd i' 0)) :
    iprop(Rec m K ∗ ownsTc d (cut M b) q X ∗ An e' (cut M' b') ∗ Ows d O₀ ∗ dutyTok ER (cel d i) 0 0 ∗ dutyTok ER (cel e' i') 0 0)
      ⊢ iprop(((cred (tallyAt (cel d i) () (crd n e)) ∗ Ows d O) -∗ WP d (k ⟨⟩) Q)
          -∗ WP d (.op (.enqueueDma (cut M b) (.remote (Dev.tc nn : Thread nD τ) (cut M' b') (.dma i) hsc) (.dma i') h1 h2 h3) k) Q) := by
  subst hnn
  unfold An Ows
  iintro ⟨#HR, Hs, ⟨%Y, Hd⟩, ⟨%W, Ho⟩, Ht, Ht'⟩ Hk
  unfold ownsTc owns
  icases Hs with ⟨%f, %hf, Hs⟩
  icases Hd with ⟨%g, -, Hd⟩
  have hp : ((cut M b).view.loc (d : Thread nD τ) ↦[(cut M b).view.set]{q} f) ⊢ (Rd m).payload (cel d i) 0 0 := landed_src (M := M) (b := b) (X := X) (f := f) (q := q) d hf (P := (Rd m).payload (cel d i) 0 0) hpay
  have hp' : ((cut M' b').view.loc (nn : Thread nD τ) ↦[(cut M' b').view.set]{fullShare}
      ((cut M' b').view.write (Elt F) g ((cut M b).view.read (Elt F) f) Finset.univ)) ⊢ (Rd m).payload (cel nn i') 0 0 :=
    landed_dst (M := M) (b := b) (M' := M') (b' := b') (X := X) (f := f) (fd := g) d hf nn (P := (Rd m).payload (cel nn i') 0 0) hpay'
  have H := Rounds.wp_send_pointsTo (defs := defs₀ (F := F)) (Γ := .empty) 𝒱₀ ER (Rd m) (d : Thread nD τ) none (c' := (nn : Thread nD τ)) (κ₁ := K (d, .dma i)) (κ₂ := K (nn, .dma i'))
    (r₁ := 0) (r₂ := 0) (d₁ := 0) (d₂ := 0) (fd := g) (src := cut M b) (dst := cut M' b') (fs := f) (q := q) (hsc := hsc) (hsrc := h1) (hdst := h2) (hsem := h3) (k := k) (Q := Q) (sS := .dma i) (sem := .dma i') (Es := Set.univ)
    (by rw [duties_dma m d i 0 hr]; exact Finset.mem_singleton_self _) (by rw [duties_dma m nn i' 0 hr']; exact Finset.mem_singleton_self _)
    () () (crd n e) rfl (show (Rd m).amount (cel d i) 0 0 = crd n e from hN)
    (show (Rd m).amount (cel nn i') 0 0 = crd n e from hN') O hO (W := W)
    hp hp'
  iapply H $$ [Hs Hd Ho Ht Ht']
  · isplitr; · iapply (Rec_inv m K (d, .dma i)); iexact HR
    isplitr; · iapply (Rec_inv m K (nn, .dma i')); iexact HR
    isplitl [Hs]; · iexact Hs
    isplitl [Hd]; · iexact Hd
    isplitl [Ho]; · iexact Ho
    isplitl [Ht]; · iexact Ht
    isplitr; · iapply (Rec_reached m K (d, .dma i)); iexact HR
    isplitl [Ht']; · iexact Ht'
    iapply (Rec_reached m K (nn, .dma i')); iexact HR
  iintro ⟨Hc, Ho⟩
  iapply Hk
  isplitl [Hc]; · iexact Hc
  iexists W; iexact Ho

/-- A wait for a copy's landing: the device is handed what the copy's kind says. -/
theorem wp_wait {sps : Space} {ss : Shape} {es : EltTy} {S : Memref sig .tc sps ss es} {h1 : S.view.WordExact} {h2 : (cut M' b').view.WordExact}
    {k : PUnit → Pr F} {Q : PUnit → sProp 𝕄} {O : CellTallies nD τ sig Unit}
    (hr : r < rounds i) (hN : amt (kd i r) = crd n e) (hO : Above (lvS (.dma i)) O) :
    iprop(Rec m K ∗ cred (tallyAt (cel d i) () (crd n e)) ∗ Ows d O ∗ atPos ER (cel d i) r ∅ 0)
      ⊢ iprop(((Ows d O ∗ atPos ER (cel d i) (r + 1) ∅ 0 ∗ reached ER (cel d i) (r + 1) ∗ pay m d (kd i r)) -∗ WP d (k ⟨⟩) Q)
          -∗ WP d (.op (.waitDma2 i S (cut M' b') h1 h2) k) Q) := by
  unfold Ows
  iintro ⟨#HR, Hc, ⟨%W, Ho⟩, Ha⟩ Hk
  iapply (Rounds.wp_wait_rest_token 𝒱₀ ER (Rd m) (d : Thread nD τ) none (κ := K (d, .dma i))
      (wpE_waitDma2_eq 𝒱₀ (d : Thread nD τ) none Set.univ) (Set.mem_univ _) () (O := O) (W := W) (R := r) (m := 0) (T := ∅)
      (by rw [Nat.zero_add]; exact (hN.symm.trans (expect_dma m d i r hr).symm))) $$ [Hc Ho Ha]
  · isplitr; · iapply (Rec_inv m K (d, .dma i)); iexact HR
    isplitl [Hc]; · iexact Hc
    isplitl [Ho]; · iexact Ho
    isplitr; · iapply (mayWait d (.dma i) hO); iapply (Rec_lev m K); iexact HR
    iexact Ha
  rw [rest_dma m d i r hr]
  iintro ⟨Ho, Ha, Hre, Hp⟩
  iapply Hk
  isplitl [Ho]; · iexists _; iexact Ho
  isplitl [Ha]; · iexact Ha
  isplitl [Hre]; · iexact Hre
  iexact Hp

/-- A cell whose rounds are over is closed. -/
theorem close (hr : rounds i ≤ r) :
    iprop(Rec m K ∗ atPos ER (cel d i) r ∅ 0) ⊢ iprop(|={Set.univ}=> semVal (cel d i) 0) := by
  refine ent ?_ (Rounds.cell_close ER (Rd m) (Set.mem_univ (K (d, .dma i))) (fun h => h) (R := r)
    (fun r' h => duties_dma_later m d i r' (hr.trans h)))
  iintro ⟨#HR, Ha⟩
  isplitr; · iapply (Rec_inv m K (d, .dma i)); iexact HR
  iexact Ha

/-- The wait on a cell of one round: the cell is closed, its counter at zero. -/
theorem wp_wait1 {sps : Space} {ss : Shape} {es : EltTy} {S : Memref sig .tc sps ss es} {h1 : S.view.WordExact} {h2 : (cut M' b').view.WordExact}
    {k : PUnit → Pr F} {Q : PUnit → sProp 𝕄} {O : CellTallies nD τ sig Unit}
    (hr : rounds i = 1) (hN : amt (kd i 0) = crd n e) (hO : Above (lvS (.dma i)) O) :
    iprop(Rec m K ∗ cred (tallyAt (cel d i) () (crd n e)) ∗ Ows d O ∗ atPos ER (cel d i) 0 ∅ 0)
      ⊢ iprop(((Ows d O ∗ semVal (cel d i) 0 ∗ pay m d (kd i 0)) -∗ WP d (k ⟨⟩) Q)
          -∗ WP d (.op (.waitDma2 i S (cut M' b') h1 h2) k) Q) := by
  iintro ⟨#HR, Hc, Ho, Ha⟩ Hk
  iapply (wp_wait m K d (r := 0) (by rw [hr]; exact Nat.one_pos) hN hO) $$ [Hc Ho Ha]
  · isplitr; · iexact HR
    isplitl [Hc]; · iexact Hc
    isplitl [Ho] <;> iassumption
  iintro ⟨Ho, Ha, -, Hp⟩
  imod (close m K d (i := i) (r := 0 + 1) (by rw [hr])) $$ [Ha] with Hz
  · isplitr; · iexact HR
    iexact Ha
  iapply Hk
  isplitl [Ho]; · iexact Ho
  isplitl [Hz] <;> iassumption

/-- A load of a block. -/
theorem wp_loadB {R : ℕ} {M : Memref sig .tc .vmem (Rows R) e} {b : Cut R n} {hl : M.view.LoadsAt b.rect.toLoadRect}
    {k : ((Rows n).Idx → Elt F e) → Pr F} {Q : PUnit → sProp 𝕄} :
    ownsTc d (cut M b) q X
      ⊢ iprop((ownsTc d (cut M b) q X -∗ WP d (k X) Q) -∗ WP d (.op (.load M b.rect.toLoadRect hl) k) Q) := by
  unfold ownsTc owns
  iintro ⟨%f, %hf, H⟩ Hk
  iapply (wp_load_rect 𝒱₀ (d : Thread nD τ) none Set.univ (m := M) (r := b.rect) (S := (cut M b).view.set) (f := f) (q := q) (Finset.Subset.refl _)) $$ H
  iintro H
  rw [show (M.access b.rect).read (Elt F) f = X from hf]
  iapply Hk
  iexists f; isplitr; · ipureintro; exact hf
  iexact H

/-- A store of a block. -/
theorem wp_storeB {R : ℕ} {M : Memref sig .tc .vmem (Rows R) e} {b : Cut R n} {w : (Rows n).Idx → Elt F e}
    {hx : (M.access b.rect).Stores Finset.univ} {hm} {k : PUnit → Pr F} {Q : PUnit → sProp 𝕄} :
    An d (cut M b)
      ⊢ iprop((ownsTc d (cut M b) fullShare w -∗ WP d (k ⟨⟩) Q) -∗ WP d (.op (.store M b.rect w Finset.univ hx hm) k) Q) := by
  unfold An ownsTc owns
  iintro ⟨%Y, %f, -, H⟩ Hk
  iapply (wp_store 𝒱₀ (d : Thread nD τ) none Set.univ (m := M) (r := b.rect) (S := (cut M b).view.set) (f := f) (View.setOn_subset_set _ _)) $$ H
  iintro H
  iapply Hk
  iexists _; isplitr
  · ipureintro; exact View.read_write_univ (v := M.access b.rect) f w
  iexact H

end Blocks

/-- A loop: what each pass needs and gives, and what is carried through all of them. -/
theorem wp_loop : (n : ℕ) → (f : Fin n → Pr F) → (A B : Fin n → sProp 𝕄) → (C : ℕ → sProp 𝕄)
    → (∀ (i : Fin n) (Q : PUnit → sProp 𝕄), iprop(A i ∗ C i) ⊢ iprop(((B i ∗ C (i + 1)) -∗ Q ⟨⟩) -∗ WP d (f i) Q))
    → ∀ (Q : PUnit → sProp 𝕄), iprop(bigSep Finset.univ A ∗ C 0) ⊢ iprop(((bigSep Finset.univ B ∗ C n) -∗ Q ⟨⟩) -∗ WP d (loop n f) Q)
  | 0, f, A, B, C, h, Q => by
    rw [show (bigSep Finset.univ B) = bigSep Finset.univ A from bigSep_congr fun i => i.elim0]
    iintro ⟨HA, HC⟩ HQ
    rw [show WP d (loop 0 f) Q = iprop(|={Set.univ}=> Q ⟨⟩) from rfl]
    imodintro
    iapply HQ
    isplitl [HA]
    · iexact HA
    · iexact HC
  | n + 1, f, A, B, C, h, Q => by
    have hs (Φ : Fin (n + 1) → sProp 𝕄) : bigSep Finset.univ Φ = iprop(Φ 0 ∗ bigSep Finset.univ fun i : Fin n => Φ i.succ) := by
      rw [Fin.univ_succ, Finset.cons_eq_insert, bigSep_insert (by simp), bigSep_map]; rfl
    rw [hs A, hs B]
    unfold loop
    rw [WP_bind]
    have h0 (Q : PUnit → sProp 𝕄) : iprop(A 0 ∗ C 0) ⊢ iprop(((B 0 ∗ C (0 + 1)) -∗ Q ⟨⟩) -∗ WP d (f 0) Q) := h 0 Q
    iintro ⟨⟨HA0, HA⟩, HC⟩ HQ
    iapply (h0 _) $$ [HA0 HC]
    · isplitl [HA0]; · iexact HA0
      iexact HC
    iintro ⟨HB0, HC⟩
    iapply (wp_loop n (fun i => f i.succ) (fun i => A i.succ) (fun i => B i.succ) (fun t => C (t + 1))
      (fun i Q => h i.succ Q) Q) $$ [HA HC]
    · isplitl [HA]; · iexact HA
      iexact HC
    iintro ⟨HB, HC⟩
    iapply HQ
    isplitl [HB0 HB]
    · isplitl [HB0]; · iexact HB0
      iexact HB
    iexact HC

end Cert.KernelIdeal.Exch

end
-- ==== Proof.StepA.lean ====
/-
What a device still owes in the course of the run, and the first phase: a chunk of the input copied in, cast, sent along `y`.
-/
module

public import proofs.«01_k».proof.Proof.Rules

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (d : Dev nD)

/-! ## Tails: from chunk `c` on -/

/-- The sum of `f` from `c` on. -/
def tl {n : ℕ} (f : Fin n → CellTallies nD τ sig Unit) (c : ℕ) : CellTallies nD τ sig Unit :=
  ∑ i ∈ Finset.univ.filter (fun i : Fin n => c ≤ i.val), f i

theorem filter_from {n : ℕ} (i : Fin n) :
    (Finset.univ.filter fun k : Fin n => i.val ≤ k.val) = insert i (Finset.univ.filter fun k : Fin n => i.val + 1 ≤ k.val) := by
  ext k
  simp only [Finset.mem_filter, Finset.mem_univ, true_and, Finset.mem_insert, Fin.ext_iff]
  omega

theorem not_mem_from {n : ℕ} (i : Fin n) : i ∉ Finset.univ.filter fun k : Fin n => i.val + 1 ≤ k.val := by
  simp

theorem tl_step {n : ℕ} (f : Fin n → CellTallies nD τ sig Unit) (i : Fin n) : tl f i.val = tl f (i.val + 1) + f i := by
  unfold tl; rw [filter_from i, Finset.sum_insert (not_mem_from i), add_comm]

theorem tl_end {n : ℕ} (f : Fin n → CellTallies nD τ sig Unit) : tl f n = 0 := by
  unfold tl
  rw [show (Finset.univ.filter fun k : Fin n => n ≤ k.val) = ∅ from by ext k; simp, Finset.sum_empty]

theorem tl_zero {n : ℕ} (f : Fin n → CellTallies nD τ sig Unit) : tl f 0 = ∑ i, f i := by
  unfold tl; simp

theorem Above.tl {k n : ℕ} {f : Fin n → CellTallies nD τ sig Unit} (c : ℕ) (h : ∀ i, Above k (f i)) : Above k (tl f c) :=
  Above.sum _ fun i _ => h i

/-- The resources `Φ` from `c` on. -/
def tlS {n : ℕ} (Φ : Fin n → sProp 𝕄) (c : ℕ) : sProp 𝕄 := bigSep (Finset.univ.filter fun k : Fin n => c ≤ k.val) Φ

omit [FloatOps F] in
theorem tlS_step {n : ℕ} (Φ : Fin n → sProp 𝕄) (i : Fin n) : tlS Φ i.val = iprop(Φ i ∗ tlS Φ (i.val + 1)) := by
  unfold tlS; rw [filter_from i, bigSep_insert (not_mem_from i)]; rfl

omit [FloatOps F] in
theorem tlS_end {n : ℕ} (Φ : Fin n → sProp 𝕄) (c : ℕ) (h : n ≤ c) : tlS Φ c = iprop(emp) := by
  unfold tlS
  rw [show (Finset.univ.filter fun k : Fin n => c ≤ k.val) = ∅ from by ext k; simp; omega]
  exact bigSep_empty

omit [FloatOps F] in
theorem tlS_zero {n : ℕ} (Φ : Fin n → sProp 𝕄) : tlS Φ 0 = bigSep Finset.univ Φ := by
  unfold tlS; simp

/-! ## What a device owes -/

/-- The credit of a copy of chunk `c`. -/
abbrev nb (c : Fin 10) : ℕ := crd (SZ c) .bf16

/-- The forwards along `z` of the second half from chunk `j` on, -/
def oHi (j : ℕ) : CellTallies nD τ sig Unit := tl (fun j : Fin 5 => tallyAt (cel (nz d) (iFzr j)) () (nb (hi j))) j
/-- with the forwards along `x` of the first half from `j` on, -/
def oLo (j : ℕ) : CellTallies nD τ sig Unit := oHi d 0 + tl (fun j : Fin 5 => tallyAt (cel (nx d) (iFxr j)) () (nb (lo j))) j
/-- with the sends along `z` and `x` from chunk `c` on, -/
def oB (c : ℕ) : CellTallies nD τ sig Unit :=
  oLo d 0 + tl (fun c : Fin 10 => tallyAt (cel (nz d) (iZr c)) () (nb c) + tallyAt (cel (nx d) (iXr c)) () (nb c)) c
/-- and with the sends along `y` from chunk `c` on. -/
def oA (c : ℕ) : CellTallies nD τ sig Unit := oB d 0 + tl (fun c : Fin 10 => tallyAt (cel (ny d) (iYr c)) () (nb c)) c

theorem lv_ld : ∀ c, lvS (.dma (iLd c)) = 0 := by decide
theorem lv_yr : ∀ c, lvS (.dma (iYr c)) = 2 := by decide
theorem lv_xr : ∀ c, lvS (.dma (iXr c)) = 3 := by decide
theorem lv_zr : ∀ c, lvS (.dma (iZr c)) = 3 := by decide
theorem lv_fxr : ∀ j, lvS (.dma (iFxr j)) = 4 := by decide
theorem lv_fzr : ∀ j, lvS (.dma (iFzr j)) = 4 := by decide

theorem above_oHi (j : ℕ) : Above 3 (oHi d j) := Above.tl _ fun j => .tally (by rw [lv_fzr]; decide)
theorem above_oLo (j : ℕ) : Above 3 (oLo d j) := (above_oHi d 0).add (Above.tl _ fun j => .tally (by rw [lv_fxr]; decide))
theorem Above.mono {k k' : ℕ} (h : k' ≤ k) {O : CellTallies nD τ sig Unit} (hO : Above k O) : Above k' O :=
  fun g u hg => ⟨(hO g u hg).1, lt_of_le_of_lt h (hO g u hg).2⟩
theorem above_oB (c : ℕ) : Above 2 (oB d c) :=
  ((above_oLo d 0).mono (by decide)).add (Above.tl _ fun c => .add (.tally (by rw [lv_zr]; decide)) (.tally (by rw [lv_xr]; decide)))
theorem above_oA (c : ℕ) : Above 1 (oA d c) :=
  ((above_oB d 0).mono (by decide)).add (Above.tl _ fun c => .tally (by rw [lv_yr]; decide))

theorem rounds_one (i : DmaSem sig) (h : 2 ≤ i.val) : rounds i = 1 := if_neg (by omega)

/-! ## Blocks within blocks -/

omit [FloatOps F] in
theorem An_of {sp : Space} {n : ℕ} {e : EltTy} {M : Memref sig .tc sp (Rows n) e} {X : (Rows n).Idx → Elt F e} :
    ownsTc d M fullShare X ⊢ An d M := by
  unfold An; iintro H; iexists X; iexact H

omit [FloatOps F] in
/-- A block within a block may be taken out and put back. -/
theorem An_borrow {sp : Space} {e : EltTy} {R n n' : ℕ} (M : Memref sig .tc sp (Rows R) e) (b : Cut R n) (b' : Cut R n')
    (h : b.off 0 ≤ b'.off 0) (h' : b'.off 0 + n' ≤ b.off 0 + n) :
    An d (cut M b) ⊢ (iprop(An d (cut M b') ∗ (An d (cut M b') -∗ An d (cut M b))) : sProp 𝕄) := by
  have hs : (cut M b').view.set ⊆ (cut M b).view.set := by
    show (M.view.slice b'.rect).set ⊆ (M.view.slice b.rect).set
    rw [View.set_slice, View.set_slice]
    refine Finset.map_subset_map.mpr fun x hx => ?_
    rw [Rect.mem_set_unit] at hx ⊢
    intro a
    match a with
    | 0 => have := hx 0; exact ⟨h.trans this.1, lt_of_lt_of_le this.2 h'⟩
    | 1 => have := hx 1; rw [b'.col] at this; rw [b.col]; exact this
  unfold An ownsTc owns
  iintro ⟨%X, %f, -, H⟩
  ihave H' := (show ((cut M b).view.loc (d : Thread nD τ) ↦[(cut M b).view.set]{fullShare} f : sProp 𝕄)
    ⊢ iprop(((cut M b).view.loc (d : Thread nD τ) ↦[(cut M b').view.set]{fullShare} f)
      ∗ ((cut M b).view.loc (d : Thread nD τ) ↦[(cut M b).view.set \ (cut M b').view.set]{fullShare} f))
    from (pointsTo_split_subset hs).1) $$ H
  icases H' with ⟨H1, H2⟩
  isplitl [H1]
  · iexists _, f
    isplitr; · ipureintro; rfl
    iexact H1
  iintro ⟨%Y, %g, -, H⟩
  iexists _, ((cut M b').view.set.piecewise g f)
  isplitr; · ipureintro; rfl
  iapply (show iprop(((cut M b).view.loc (d : Thread nD τ) ↦[(cut M b').view.set]{fullShare} g)
      ∗ ((cut M b).view.loc (d : Thread nD τ) ↦[(cut M b).view.set \ (cut M b').view.set]{fullShare} f))
      ⊢ ((cut M b).view.loc (d : Thread nD τ) ↦[(cut M b).view.set]{fullShare} ((cut M b').view.set.piecewise g f) : sProp 𝕄)
    from pointsTo_join_subset hs)
  isplitl [H]; · iexact H
  iexact H2

/-! ## The first phase -/

/-- The half of the f32 buffer that chunk `c`'s slot lies in, and the semaphore of its copies. -/
def reg (c : ℕ) : Cut 1024 512 := ⟨![(c % 2) * 512, 0], by show (c % 2) * 512 + 512 ≤ 1024; omega, rfl, by show 2 ∣ (c % 2) * 512; omega, by decide, by decide⟩
def ldI (c : ℕ) : DmaSem sig := ⟨c % 2, (Nat.mod_lt c (by decide)).trans (by decide)⟩

theorem ldI_eq (c : Fin 10) : ldI c.val = iLd c := rfl
theorem reg_add (c : ℕ) : reg (c + 2) = reg c := by unfold reg; simp only [Nat.add_mod_right]
theorem ldI_add (c : ℕ) : ldI (c + 2) = ldI c := by unfold ldI; simp only [Nat.add_mod_right]

omit [FloatOps F] in
theorem slot_borrow (c : Fin 10) :
    An d (cut bf (reg c.val)) ⊢ (iprop(An d (cut bf (slot c)) ∗ (An d (cut bf (slot c)) -∗ An d (cut bf (reg c.val)))) : sProp 𝕄) :=
  An_borrow d bf (reg c.val) (slot c) le_rfl (Nat.add_le_add_left (SZ_le c) _)

/-- What the copy of chunk `c`'s input needs, beside the slot. -/
def preL (c : Fin 10) : sProp 𝕄 :=
  iprop(ownsTc d (cut bx (ckOwn d c)) fullShare (xV m d c) ∗ dutyTok ER (cel d (iLd c)) (c.val / 2) 0)

/-- Chunk `c`'s copy under way; with no chunk left, the half of the f32 buffer. -/
def fly (c : ℕ) : sProp 𝕄 :=
  if h : c < 10 then iprop(cred (tallyAt (cel d (ldI c)) () (crd (SZ ⟨c, h⟩) .f32))
      ∗ (An d (cut bf (slot ⟨c, h⟩)) -∗ An d (cut bf (reg c))))
  else An d (cut bf (reg c))

theorem fly_eq (c : Fin 10) : fly (F := F) d c.val = iprop(cred (tallyAt (cel d (iLd c)) () (crd (SZ c) .f32))
    ∗ (An d (cut bf (slot c)) -∗ An d (cut bf (reg c.val)))) := dif_pos c.2

theorem fly_end (c : ℕ) (h : ¬c < 10) : fly (F := F) d c = An d (cut bf (reg c)) := dif_neg h

/-- What the first phase carries into chunk `c`. -/
def CA (c : ℕ) : sProp 𝕄 :=
  iprop(Ows d (oA d c) ∗ atPos ER (cel d (ldI c)) (c / 2) ∅ 0 ∗ atPos ER (cel d (ldI (c + 1))) ((c + 1) / 2) ∅ 0
    ∗ reached ER (cel d (ldI (c + 1))) ((c + 1) / 2) ∗ An d (cut bf (reg (c + 1))) ∗ fly d c ∗ tlS (preL m d) (c + 1))

/-- What chunk `c` needs in the first phase, -/
def preA (c : Fin 10) : sProp 𝕄 :=
  iprop(An d (cut bs (ck c)) ∗ An (ny d) (cut by' (ck c)) ∗ dutyTok ER (cel d (iYs c)) 0 0 ∗ dutyTok ER (cel (ny d) (iYr c)) 0 0)

/-- and what the first phase leaves of it. -/
def postA (c : Fin 10) : sProp 𝕄 :=
  iprop(ownsTc d (cut bx (ckOwn d c)) fullShare (xV m d c) ∗ ownsTc d (cut bs (ck c)) qR (sV m d c)
    ∗ cred (tallyAt (cel d (iYs c)) () (nb c)))

/-- Starting the copy of a chunk's input. -/
theorem wp_pLoad (c : Fin 10) (b : Cut 16384 (SZ c)) (hb : b = ckOwn d c) {k : PUnit → Pr F} {Q : PUnit → sProp 𝕄} :
    iprop(Rec m K ∗ reached ER (cel d (ldI c.val)) (c.val / 2) ∗ preL m d c ∗ An d (cut bf (reg c.val)))
      ⊢ iprop((fly d c.val -∗ WP d (k ⟨⟩) Q) -∗ WP d (pLoad c b >>= k) Q) := by
  subst hb
  unfold preL
  iintro ⟨#HR, #Hre, ⟨Hx, Ht⟩, Hreg⟩ Hk
  ihave H := (slot_borrow d c) $$ Hreg
  icases H with ⟨Hslot, Hrest⟩
  unfold pLoad
  simp only [Prog.lift, Prog.bind_op, Prog.bind_ret]
  iapply (wp_copy m K d (M := bx) (b := ckOwn d c) (M' := bf) (b' := slot c) (q := fullShare) (X := xV m d c) (i := iLd c) (r := c.val / 2)
    (by revert c; decide) (amt_ld c) (Entails.of_eq (pay_ld m d c).symm)) $$ [Hx Ht Hslot]
  · isplitr; · iexact HR
    isplitr; · iexact Hre
    isplitl [Hx]; · iexact Hx
    isplitl [Hslot]; · iexact Hslot
    iexact Ht
  iintro Hc
  iapply Hk
  unfold fly
  rw [dif_pos c.2]
  isplitl [Hc]; · iexact Hc
  iexact Hrest

/-- Starting the copy of the next chunk's input, if there is one. -/
theorem wp_pNext (c : Fin 10) {k : PUnit → Pr F} {Q : PUnit → sProp 𝕄} :
    iprop(Rec m K ∗ reached ER (cel d (ldI (c.val + 1))) ((c.val + 1) / 2) ∗ An d (cut bf (reg (c.val + 1))) ∗ tlS (preL m d) (c.val + 1))
      ⊢ iprop(((fly d (c.val + 1) ∗ tlS (preL m d) (c.val + 2)) -∗ WP d (k ⟨⟩) Q) -∗ WP d (pNext d c >>= k) Q) := by
  by_cases h : c.val + 1 < 10
  · rw [show pNext (F := F) d c = pLoad ⟨c.val + 1, h⟩ (ckOwn d ⟨c.val + 1, h⟩) from by unfold pNext nxt; rw [dif_pos h]]
    rw [show tlS (preL m d) (c.val + 1) = iprop(preL m d ⟨c.val + 1, h⟩ ∗ tlS (preL m d) (c.val + 2)) from tlS_step (preL m d) ⟨c.val + 1, h⟩]
    iintro ⟨#HR, #Hre, Hreg, Hp, Ht⟩ Hk
    iapply (wp_pLoad m K d ⟨c.val + 1, h⟩ _ rfl) $$ [Hp Hreg]
    · isplitr; · iexact HR
      isplitr; · iexact Hre
      isplitl [Hp]; · iexact Hp
      iexact Hreg
    iintro Hf
    iapply Hk
    isplitl [Hf]; · iexact Hf
    iexact Ht
  · rw [show pNext (F := F) d c = .ret ⟨⟩ from by unfold pNext nxt; rw [dif_neg h]; rfl]
    rw [fly_end d _ h, tlS_end (preL m d) (c.val + 1) (by omega), tlS_end (preL m d) (c.val + 2) (by omega)]
    iintro ⟨#HR, #Hre, Hreg, Ht⟩ Hk
    iapply Hk
    isplitl [Hreg]; · iexact Hreg
    iexact Ht

/-- The first phase of chunk `c`. -/
theorem step_A (c : Fin 10) (Q : PUnit → sProp 𝕄) :
    iprop((Rec m K ∗ preA d c) ∗ CA m d c.val) ⊢ iprop(((postA m d c ∗ CA m d (c.val + 1)) -∗ Q ⟨⟩) -∗ WP d (pA d c) Q) := by
  unfold preA CA
  rw [fly_eq]
  iintro ⟨⟨#HR, Hs, Hy, Hts, Htr⟩, Ho, Ha, Ha', #Hre, Hreg, ⟨Hc, Hrest⟩, Htl⟩ Hk
  unfold pA
  simp only [Prog.lift, Prog.bind_op, Prog.bind_ret]
  iapply (wp_wait m K d (M' := bf) (b' := slot c) (i := iLd c) (r := c.val / 2) (by revert c; decide) (amt_ld c)
    (by rw [lv_ld]; exact (above_oA d c.val).mono (by decide))) $$ [Hc Ho Ha]
  · isplitr; · iexact HR
    isplitl [Hc]; · iexact Hc
    isplitl [Ho]; · iexact Ho
    iexact Ha
  iintro ⟨Ho, Ha, #Hre', Hp⟩
  ihave Hp := (Entails.of_eq (pay_ld m d c)) $$ Hp
  icases Hp with ⟨Hslot, Hx⟩
  iapply (wp_pNext m K d c) $$ [Hreg Htl]
  · isplitr; · iexact HR
    isplitr; · iexact Hre
    isplitl [Hreg]; · iexact Hreg
    iexact Htl
  iintro ⟨Hfly, Htl⟩
  iapply (wp_loadB d (M := bf) (b := slot c)) $$ Hslot
  iintro Hslot
  ihave Hs := (show An d (cut bs (ck c)) ⊢ iprop(∃ X, ownsTc d (cut bs (ck c)) fullShare X) from .rfl) $$ Hs
  icases Hs with ⟨%Y, Hs⟩
  iapply (wp_loadB d (M := bs) (b := ck c)) $$ Hs
  iintro Hs
  iapply (wp_storeB d (M := bs) (b := ck c)) $$ [Hs]
  · iapply (An_of d); iexact Hs
  iintro Hs
  ihave H := (owns_halves (d : Thread nD τ) (cut bs (ck c)) fullShare _).1 $$ Hs
  icases H with ⟨Hl, Hr⟩
  iapply (wp_send m K d (M := bs) (b := ck c) (M' := by') (b' := ck c) (q := qL) (X := sV m d c) (i := iYs c) (i' := iYr c)
    (devOf_eq _ (ny d) (devY_eq d c)) (by rw [rounds_one _ (by dsimp only [iYs]; omega)]; decide) (by rw [rounds_one _ (by dsimp only [iYr]; omega)]; decide)
    (amt_ys c) (amt_yr c) (oA d (c.val + 1)) (O₀ := oA d c.val)
    (by unfold oA; rw [tl_step _ c, add_assoc]) (Entails.of_eq (pay_ys m d c).symm)
    (Entails.of_eq (by rw [pay_yr m (ny d) c, ny_ny]))) $$ [Hl Hy Ho Hts Htr]
  · isplitr; · iexact HR
    isplitl [Hl]; · iexact Hl
    isplitl [Hy]; · iexact Hy
    isplitl [Ho]; · iexact Ho
    isplitl [Hts]; · iexact Hts
    iexact Htr
  iintro ⟨Hcr, Ho⟩
  rw [WP_ret]; imodintro
  iapply Hk
  unfold postA
  isplitl [Hx Hr Hcr]
  · isplitl [Hx]; · iexact Hx
    isplitl [Hr]; · iexact Hr
    iexact Hcr
  isplitl [Ho]; · iexact Ho
  isplitl [Ha']; · iexact Ha'
  isplitl [Ha]
  · iapply (Entails.of_eq (show atPos ER (cel d (iLd c)) (c.val / 2 + 1) ∅ 0 = atPos ER (cel d (ldI (c.val + 2))) ((c.val + 2) / 2) ∅ 0 from
      by rw [ldI_add, ldI_eq, Nat.add_div_right _ (by decide)])); iexact Ha
  isplitr
  · iapply (Entails.of_eq (show reached ER (cel d (iLd c)) (c.val / 2 + 1) = reached ER (cel d (ldI (c.val + 2))) ((c.val + 2) / 2) from
      by rw [ldI_add, ldI_eq, Nat.add_div_right _ (by decide)])); iexact Hre'
  isplitl [Hrest Hslot]
  · iapply (Entails.of_eq (show An d (cut bf (reg c.val)) = An d (cut bf (reg (c.val + 2))) from by rw [reg_add]))
    iapply Hrest
    iapply (An_of d); iexact Hslot
  isplitl [Hfly]; · iexact Hfly
  iexact Htl

end Cert.KernelIdeal.Exch

end
-- ==== Proof.Steps.lean ====
/-
The phases after the first, each for one chunk: the reduction and its sends, the arrivals from along `z` and `x` with their
copies out and forwards, the forwarded rows' copies out, and the waits for all that was sent and copied out.
-/
module

public import proofs.«01_k».proof.Proof.StepA

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (d : Dev nD)

/-- Every cell but the input's has a round. -/
theorem one_lt {i : DmaSem sig} (h : 2 ≤ i.val) : 0 < rounds i := by rw [rounds_one i h]; exact Nat.one_pos

/-! ## The reduction -/

/-- What chunk `c` needs in the second phase, -/
def preB (c : Fin 10) : sProp 𝕄 :=
  iprop(atPos ER (cel d (iYr c)) 0 ∅ 0 ∗ cred (tallyAt (cel d (iYr c)) () (nb c)) ∗ ownsTc d (cut bs (ck c)) qR (sV m d c)
    ∗ (An (nx d) (cut bxr (ck c)) ∗ dutyTok ER (cel d (iXs c)) 0 0 ∗ dutyTok ER (cel (nx d) (iXr c)) 0 0)
    ∗ (An (nz d) (cut bzr (ck c)) ∗ dutyTok ER (cel d (iZs c)) 0 0 ∗ dutyTok ER (cel (nz d) (iZr c)) 0 0)
    ∗ (An d (cut bo (ckOwn d c)) ∗ dutyTok ER (cel d (iOo c)) 0 0))

/-- and what it leaves of it. -/
def postB (c : Fin 10) : sProp 𝕄 :=
  iprop(semVal (cel d (iYr c)) 0 ∗ ownsTc d (cut bs (ck c)) qR (sV m d c) ∗ cred (tallyAt (cel d (iXs c)) () (nb c))
    ∗ cred (tallyAt (cel d (iZs c)) () (nb c)) ∗ cred (tallyAt (cel d (iOo c)) () (nb c)))

/-- The second phase of chunk `c`. -/
theorem step_B (c : Fin 10) (Q : PUnit → sProp 𝕄) :
    iprop((Rec m K ∗ preB m d c) ∗ Ows d (oB d c.val)) ⊢ iprop(((postB m d c ∗ Ows d (oB d (c.val + 1))) -∗ Q ⟨⟩) -∗ WP d (pB d c) Q) := by
  unfold preB
  iintro ⟨⟨#HR, Ha, Hc, Hs, ⟨Hxr, Htxs, Htxr⟩, ⟨Hzr, Htzs, Htzr⟩, Hbo, Hto⟩, Ho⟩ Hk
  unfold pB
  simp only [Prog.lift, Prog.bind_op, Prog.bind_ret]
  iapply (wp_wait1 m K d (M' := by') (b' := ck c) (i := iYr c) (rounds_one _ (by dsimp only [iYr]; omega)) (amt_yr c)
    (by rw [lv_yr]; exact above_oB d c.val)) $$ [Hc Ho Ha]
  · isplitr; · iexact HR
    isplitl [Hc]; · iexact Hc
    isplitl [Ho]; · iexact Ho
    iexact Ha
  iintro ⟨Ho, Hz, Hp⟩
  ihave Hy := (Entails.of_eq (pay_yr m d c)) $$ Hp
  iapply (wp_loadB d (M := by') (b := ck c)) $$ Hy
  iintro Hy
  iapply (wp_loadB d (M := bs) (b := ck c)) $$ Hs
  iintro Hs
  iapply (wp_loadB d (M := by') (b := ck c)) $$ Hy
  iintro Hy
  iapply (wp_storeB d (M := by') (b := ck c)) $$ [Hy]
  · iapply (An_of d); iexact Hy
  iintro Hy
  ihave H := (owns_halves (d : Thread nD τ) (cut by' (ck c)) fullShare _).1 $$ Hy
  icases H with ⟨Hl, Hr⟩
  ihave H := (owns_halves (d : Thread nD τ) (cut by' (ck c)) fullShare.right _).1 $$ Hr
  icases H with ⟨Hrl, Hrr⟩
  iapply (wp_send m K d (M := by') (b := ck c) (M' := bxr) (b' := ck c) (q := qL) (X := yV m d c) (i := iXs c) (i' := iXr c)
    (devOf_eq _ (nx d) (devX_eq d c)) (one_lt (by dsimp only [iXs]; omega)) (one_lt (by dsimp only [iXr]; omega))
    (amt_xs c) (amt_xr c) (oB d (c.val + 1) + tallyAt (cel (nz d) (iZr c)) () (nb c)) (O₀ := oB d c.val)
    (by unfold oB; rw [tl_step _ c, add_assoc, add_assoc]) (Entails.of_eq (pay_xs m d c).symm)
    (Entails.of_eq (by rw [pay_xr m (nx d) c, nx_nx]))) $$ [Hl Hxr Ho Htxs Htxr]
  · isplitr; · iexact HR
    isplitl [Hl]; · iexact Hl
    isplitl [Hxr]; · iexact Hxr
    isplitl [Ho]; · iexact Ho
    isplitl [Htxs]; · iexact Htxs
    iexact Htxr
  iintro ⟨Hcx, Ho⟩
  iapply (wp_send m K d (M := by') (b := ck c) (M' := bzr) (b' := ck c) (q := qRL) (X := yV m d c) (i := iZs c) (i' := iZr c)
    (devOf_eq _ (nz d) (devZ_eq d c)) (one_lt (by dsimp only [iZs]; omega)) (one_lt (by dsimp only [iZr]; omega))
    (amt_zs c) (amt_zr c) (oB d (c.val + 1)) rfl (Entails.of_eq (pay_zs m d c).symm)
    (Entails.of_eq (by rw [pay_zr m (nz d) c, nz_nz]))) $$ [Hrl Hzr Ho Htzs Htzr]
  · isplitr; · iexact HR
    isplitl [Hrl]; · iexact Hrl
    isplitl [Hzr]; · iexact Hzr
    isplitl [Ho]; · iexact Ho
    isplitl [Htzs]; · iexact Htzs
    iexact Htzr
  iintro ⟨Hcz, Ho⟩
  iapply (wp_copy1 m K d (M := by') (b := ck c) (M' := bo) (b' := ckOwn d c) (q := qRR) (X := yV m d c) (i := iOo c)
    (one_lt (by dsimp only [iOo]; omega)) (amt_oo c) (Entails.of_eq (pay_oo m d c).symm)) $$ [Hrr Hbo Hto]
  · isplitr; · iexact HR
    isplitl [Hrr]; · iexact Hrr
    isplitl [Hbo]; · iexact Hbo
    iexact Hto
  iintro Hco
  rw [WP_ret]; imodintro
  iapply Hk
  unfold postB
  isplitr [Ho]
  · isplitl [Hz]; · iexact Hz
    isplitl [Hs]; · iexact Hs
    isplitl [Hcx]; · iexact Hcx
    isplitl [Hcz]; · iexact Hcz
    iexact Hco
  iexact Ho

/-! ## The arrivals -/

/-- What the arrival of chunk `c` from along `z` needs, and leaves; -/
def preZ (c : Fin 10) : sProp 𝕄 :=
  iprop(atPos ER (cel d (iZr c)) 0 ∅ 0 ∗ cred (tallyAt (cel d (iZr c)) () (nb c)) ∗ An d (cut bo (ckZ d c)) ∗ dutyTok ER (cel d (iOz c)) 0 0)
def postZ (c : Fin 10) : sProp 𝕄 := iprop(semVal (cel d (iZr c)) 0 ∗ cred (tallyAt (cel d (iOz c)) () (nb c)))
/-- and that from along `x`. -/
def preX (c : Fin 10) : sProp 𝕄 :=
  iprop(atPos ER (cel d (iXr c)) 0 ∅ 0 ∗ cred (tallyAt (cel d (iXr c)) () (nb c)) ∗ An d (cut bo (ckX d c)) ∗ dutyTok ER (cel d (iOx c)) 0 0)
def postX (c : Fin 10) : sProp 𝕄 := iprop(semVal (cel d (iXr c)) 0 ∗ cred (tallyAt (cel d (iOx c)) () (nb c)))

/-- The arrival of a chunk from along `z`. -/
theorem step_Cz (c : Fin 10) {O : CellTallies nD τ sig Unit} (hO : Above 3 O) (Q : PUnit → sProp 𝕄) :
    iprop(Rec m K ∗ preZ d c ∗ Ows d O)
      ⊢ iprop(((postZ d c ∗ ownsTc d (cut bzr (ck c)) qR (yV m (nz d) c) ∗ Ows d O) -∗ Q ⟨⟩) -∗ WP d (pCz d c) Q) := by
  unfold preZ
  iintro ⟨#HR, ⟨Ha, Hc, Hbo, Hto⟩, Ho⟩ Hk
  unfold pCz
  simp only [Prog.lift, Prog.bind_op, Prog.bind_ret]
  iapply (wp_wait1 m K d (M' := bzr) (b' := ck c) (i := iZr c) (rounds_one _ (by dsimp only [iZr]; omega)) (amt_zr c)
    (by rw [lv_zr]; exact hO)) $$ [Hc Ho Ha]
  · isplitr; · iexact HR
    isplitl [Hc]; · iexact Hc
    isplitl [Ho]; · iexact Ho
    iexact Ha
  iintro ⟨Ho, Hz, Hp⟩
  ihave Hy := (Entails.of_eq (pay_zr m d c)) $$ Hp
  ihave H := (owns_halves (d : Thread nD τ) (cut bzr (ck c)) fullShare _).1 $$ Hy
  icases H with ⟨Hl, Hr⟩
  iapply (wp_copy1 m K d (M := bzr) (b := ck c) (M' := bo) (b' := ckZ d c) (q := qL) (X := yV m (nz d) c) (i := iOz c)
    (one_lt (by dsimp only [iOz]; omega)) (amt_oz c) (Entails.of_eq (pay_oz m d c).symm)) $$ [Hl Hbo Hto]
  · isplitr; · iexact HR
    isplitl [Hl]; · iexact Hl
    isplitl [Hbo]; · iexact Hbo
    iexact Hto
  iintro Hco
  rw [WP_ret]; imodintro
  iapply Hk
  unfold postZ
  isplitl [Hz Hco]
  · isplitl [Hz]; · iexact Hz
    iexact Hco
  isplitl [Hr]; · iexact Hr
  iexact Ho

/-- The arrival of a chunk from along `x`. -/
theorem step_Cx (c : Fin 10) {O : CellTallies nD τ sig Unit} (hO : Above 3 O) (Q : PUnit → sProp 𝕄) :
    iprop(Rec m K ∗ preX d c ∗ Ows d O)
      ⊢ iprop(((postX d c ∗ ownsTc d (cut bxr (ck c)) qR (yV m (nx d) c) ∗ Ows d O) -∗ Q ⟨⟩) -∗ WP d (pCx d c) Q) := by
  unfold preX
  iintro ⟨#HR, ⟨Ha, Hc, Hbo, Hto⟩, Ho⟩ Hk
  unfold pCx
  simp only [Prog.lift, Prog.bind_op, Prog.bind_ret]
  iapply (wp_wait1 m K d (M' := bxr) (b' := ck c) (i := iXr c) (rounds_one _ (by dsimp only [iXr]; omega)) (amt_xr c)
    (by rw [lv_xr]; exact hO)) $$ [Hc Ho Ha]
  · isplitr; · iexact HR
    isplitl [Hc]; · iexact Hc
    isplitl [Ho]; · iexact Ho
    iexact Ha
  iintro ⟨Ho, Hz, Hp⟩
  ihave Hy := (Entails.of_eq (pay_xr m d c)) $$ Hp
  ihave H := (owns_halves (d : Thread nD τ) (cut bxr (ck c)) fullShare _).1 $$ Hy
  icases H with ⟨Hl, Hr⟩
  iapply (wp_copy1 m K d (M := bxr) (b := ck c) (M' := bo) (b' := ckX d c) (q := qL) (X := yV m (nx d) c) (i := iOx c)
    (one_lt (by dsimp only [iOx]; omega)) (amt_ox c) (Entails.of_eq (pay_ox m d c).symm)) $$ [Hl Hbo Hto]
  · isplitr; · iexact HR
    isplitl [Hl]; · iexact Hl
    isplitl [Hbo]; · iexact Hbo
    iexact Hto
  iintro Hco
  rw [WP_ret]; imodintro
  iapply Hk
  unfold postX
  isplitl [Hz Hco]
  · isplitl [Hz]; · iexact Hz
    iexact Hco
  isplitl [Hr]; · iexact Hr
  iexact Ho

/-- What the forward of chunk `j` of the first half needs, -/
def preFx (j : Fin 5) : sProp 𝕄 :=
  iprop(An (nx d) (cut bdx (ckLo j)) ∗ dutyTok ER (cel d (iFxs j)) 0 0 ∗ dutyTok ER (cel (nx d) (iFxr j)) 0 0)
/-- and that of chunk `j` of the second half. -/
def preFz (j : Fin 5) : sProp 𝕄 :=
  iprop(An (nz d) (cut bdz (ckHi j)) ∗ dutyTok ER (cel d (iFzs j)) 0 0 ∗ dutyTok ER (cel (nz d) (iFzr j)) 0 0)

/-- What the third phase leaves of chunk `j` of the first half, -/
def postClo (j : Fin 5) : sProp 𝕄 :=
  iprop(postZ d (lo j) ∗ postX d (lo j) ∗ ownsTc d (cut bxr (ck (lo j))) qR (yV m (nx d) (lo j))
    ∗ cred (tallyAt (cel d (iFxs j)) () (nb (lo j))))
/-- and of chunk `j` of the second. -/
def postChi (j : Fin 5) : sProp 𝕄 :=
  iprop(postZ d (hi j) ∗ postX d (hi j) ∗ ownsTc d (cut bzr (ck (hi j))) qR (yV m (nz d) (hi j))
    ∗ cred (tallyAt (cel d (iFzs j)) () (nb (hi j))))

/-- The third phase of chunk `j` of the first half: its rows from along `z` are forwarded along `x`. -/
theorem step_Clo (j : Fin 5) (Q : PUnit → sProp 𝕄) :
    iprop((Rec m K ∗ preZ d (lo j) ∗ preX d (lo j) ∗ preFx d j) ∗ Ows d (oLo d j.val))
      ⊢ iprop(((postClo m d j ∗ Ows d (oLo d (j.val + 1))) -∗ Q ⟨⟩) -∗ WP d (pClo d j) Q) := by
  unfold preFx
  iintro ⟨⟨#HR, HZ, HX, Hdx, Hts, Htr⟩, Ho⟩ Hk
  unfold pClo
  rw [WP_bind]
  iapply (step_Cz m K d (lo j) (above_oLo d j.val) _) $$ [HZ Ho]
  · isplitr; · iexact HR
    isplitl [HZ]; · iexact HZ
    iexact Ho
  iintro ⟨HZ, Hr, Ho⟩
  simp only [Prog.lift, Prog.bind_op, Prog.bind_ret]
  iapply (wp_send m K d (M := bzr) (b := ck (lo j)) (M' := bdx) (b' := ckLo j) (q := qR) (X := yV m (nz d) (lo j)) (i := iFxs j) (i' := iFxr j)
    (devOf_eq _ (nx d) (devFX_eq d j)) (one_lt (by dsimp only [iFxs]; omega)) (one_lt (by dsimp only [iFxr]; omega))
    (amt_fxs j) (amt_fxr j) (oLo d (j.val + 1)) (O₀ := oLo d j.val)
    (by unfold oLo; rw [tl_step _ j, add_assoc]) (Entails.of_eq (pay_fxs m d j).symm)
    (Entails.of_eq (by rw [pay_fxr m (nx d) j, nx_nz, nx_nx]))) $$ [Hr Hdx Ho Hts Htr]
  · isplitr; · iexact HR
    isplitl [Hr]; · iexact Hr
    isplitl [Hdx]; · iexact Hdx
    isplitl [Ho]; · iexact Ho
    isplitl [Hts]; · iexact Hts
    iexact Htr
  iintro ⟨Hcf, Ho⟩
  iapply (step_Cx m K d (lo j) (above_oLo d (j.val + 1)) _) $$ [HX Ho]
  · isplitr; · iexact HR
    isplitl [HX]; · iexact HX
    iexact Ho
  iintro ⟨HX, Hr, Ho⟩
  iapply Hk
  unfold postClo
  isplitr [Ho]
  · isplitl [HZ]; · iexact HZ
    isplitl [HX]; · iexact HX
    isplitl [Hr]; · iexact Hr
    iexact Hcf
  iexact Ho

/-- The third phase of chunk `j` of the second half: its rows from along `x` are forwarded along `z`. -/
theorem step_Chi (j : Fin 5) (Q : PUnit → sProp 𝕄) :
    iprop((Rec m K ∗ preZ d (hi j) ∗ preX d (hi j) ∗ preFz d j) ∗ Ows d (oHi d j.val))
      ⊢ iprop(((postChi m d j ∗ Ows d (oHi d (j.val + 1))) -∗ Q ⟨⟩) -∗ WP d (pChi d j) Q) := by
  unfold preFz
  iintro ⟨⟨#HR, HZ, HX, Hdx, Hts, Htr⟩, Ho⟩ Hk
  unfold pChi
  rw [WP_bind]
  iapply (step_Cz m K d (hi j) (above_oHi d j.val) _) $$ [HZ Ho]
  · isplitr; · iexact HR
    isplitl [HZ]; · iexact HZ
    iexact Ho
  iintro ⟨HZ, Hrz, Ho⟩
  rw [WP_bind]
  iapply (step_Cx m K d (hi j) (above_oHi d j.val) _) $$ [HX Ho]
  · isplitr; · iexact HR
    isplitl [HX]; · iexact HX
    iexact Ho
  iintro ⟨HX, Hr, Ho⟩
  simp only [Prog.lift, Prog.bind_op, Prog.bind_ret]
  iapply (wp_send m K d (M := bxr) (b := ck (hi j)) (M' := bdz) (b' := ckHi j) (q := qR) (X := yV m (nx d) (hi j)) (i := iFzs j) (i' := iFzr j)
    (devOf_eq _ (nz d) (devFZ_eq d j)) (one_lt (by dsimp only [iFzs]; omega)) (one_lt (by dsimp only [iFzr]; omega))
    (amt_fzs j) (amt_fzr j) (oHi d (j.val + 1)) (O₀ := oHi d j.val)
    (by unfold oHi; rw [tl_step _ j]) (Entails.of_eq (pay_fzs m d j).symm)
    (Entails.of_eq (by rw [pay_fzr m (nz d) j, nz_nz]))) $$ [Hr Hdx Ho Hts Htr]
  · isplitr; · iexact HR
    isplitl [Hr]; · iexact Hr
    isplitl [Hdx]; · iexact Hdx
    isplitl [Ho]; · iexact Ho
    isplitl [Hts]; · iexact Hts
    iexact Htr
  iintro ⟨Hcf, Ho⟩
  rw [WP_ret]; imodintro
  iapply Hk
  unfold postChi
  isplitr [Ho]
  · isplitl [HZ]; · iexact HZ
    isplitl [HX]; · iexact HX
    isplitl [Hrz]; · iexact Hrz
    iexact Hcf
  iexact Ho

/-! ## The forwarded rows -/

/-- What chunks `j` of the halves need in the fourth phase, -/
def preD (j : Fin 5) : sProp 𝕄 :=
  iprop((atPos ER (cel d (iFxr j)) 0 ∅ 0 ∗ cred (tallyAt (cel d (iFxr j)) () (nb (lo j))) ∗ An d (cut bo (ckD d (lo j)))
      ∗ dutyTok ER (cel d (iOdx j)) 0 0)
    ∗ (atPos ER (cel d (iFzr j)) 0 ∅ 0 ∗ cred (tallyAt (cel d (iFzr j)) () (nb (hi j))) ∗ An d (cut bo (ckD d (hi j)))
      ∗ dutyTok ER (cel d (iOdz j)) 0 0))

/-- and what it leaves of them. -/
def postD (j : Fin 5) : sProp 𝕄 :=
  iprop(semVal (cel d (iFxr j)) 0 ∗ semVal (cel d (iFzr j)) 0 ∗ cred (tallyAt (cel d (iOdx j)) () (nb (lo j)))
    ∗ cred (tallyAt (cel d (iOdz j)) () (nb (hi j))))

/-- The fourth phase of chunks `j` of the halves. -/
theorem step_D (j : Fin 5) (Q : PUnit → sProp 𝕄) :
    iprop((Rec m K ∗ preD d j) ∗ Ows d 0) ⊢ iprop(((postD d j ∗ Ows d 0) -∗ Q ⟨⟩) -∗ WP d (pD d j) Q) := by
  unfold preD
  iintro ⟨⟨#HR, ⟨Ha, Hc, Hbo, Hto⟩, Ha', Hc', Hbo', Hto'⟩, Ho⟩ Hk
  unfold pD
  simp only [Prog.lift, Prog.bind_op, Prog.bind_ret]
  iapply (wp_wait1 m K d (M' := bdx) (b' := ckLo j) (i := iFxr j) (rounds_one _ (by dsimp only [iFxr]; omega)) (amt_fxr j)
    (.zero _)) $$ [Hc Ho Ha]
  · isplitr; · iexact HR
    isplitl [Hc]; · iexact Hc
    isplitl [Ho]; · iexact Ho
    iexact Ha
  iintro ⟨Ho, Hz, Hp⟩
  ihave Hy := (Entails.of_eq (pay_fxr m d j)) $$ Hp
  iapply (wp_copy1 m K d (M := bdx) (b := ckLo j) (M' := bo) (b' := ckD d (lo j)) (q := fullShare) (X := yV m (nx (nz d)) (lo j)) (i := iOdx j)
    (one_lt (by dsimp only [iOdx]; omega)) (amt_odx j) (Entails.of_eq (pay_odx m d j).symm)) $$ [Hy Hbo Hto]
  · isplitr; · iexact HR
    isplitl [Hy]; · iexact Hy
    isplitl [Hbo]; · iexact Hbo
    iexact Hto
  iintro Hco
  iapply (wp_wait1 m K d (M' := bdz) (b' := ckHi j) (i := iFzr j) (rounds_one _ (by dsimp only [iFzr]; omega)) (amt_fzr j)
    (.zero _)) $$ [Hc' Ho Ha']
  · isplitr; · iexact HR
    isplitl [Hc']; · iexact Hc'
    isplitl [Ho]; · iexact Ho
    iexact Ha'
  iintro ⟨Ho, Hz', Hp⟩
  ihave Hy := (Entails.of_eq (pay_fzr m d j)) $$ Hp
  iapply (wp_copy1 m K d (M := bdz) (b := ckHi j) (M' := bo) (b' := ckD d (hi j)) (q := fullShare) (X := yV m (nx (nz d)) (hi j)) (i := iOdz j)
    (one_lt (by dsimp only [iOdz]; omega)) (amt_odz j) (Entails.of_eq (pay_odz m d j).symm)) $$ [Hy Hbo' Hto']
  · isplitr; · iexact HR
    isplitl [Hy]; · iexact Hy
    isplitl [Hbo']; · iexact Hbo'
    iexact Hto'
  iintro Hco'
  rw [WP_ret]; imodintro
  iapply Hk
  unfold postD
  isplitr [Ho]
  · isplitl [Hz]; · iexact Hz
    isplitl [Hz']; · iexact Hz'
    isplitl [Hco]; · iexact Hco
    iexact Hco'
  iexact Ho

/-! ## The last waits -/

/-- What the wait for a device's own copy needs: its position and its credit. -/
def due (i : DmaSem sig) (n : ℕ) : sProp 𝕄 := iprop(atPos ER (cel d i) 0 ∅ 0 ∗ cred (tallyAt (cel d i) () n))

/-- Such a wait, owing nothing: the cell is closed and its payload taken. -/
theorem wp_last {sp' : Space} {e : EltTy} {R' n : ℕ} {M' : Memref sig .tc sp' (Rows R') e} {b' : Cut R' n} {i : DmaSem sig}
    {sps : Space} {ss : Shape} {es : EltTy} {S : Memref sig .tc sps ss es} {h1 : S.view.WordExact} {h2 : (cut M' b').view.WordExact}
    {k : PUnit → Pr F} {Q : PUnit → sProp 𝕄} (hi : 2 ≤ i.val) (hN : amt (kd i 0) = crd n e) {P : sProp 𝕄} (hP : pay m d (kd i 0) = P) :
    iprop(Rec m K ∗ due d i (crd n e) ∗ Ows d 0)
      ⊢ iprop(((Ows d 0 ∗ semVal (cel d i) 0 ∗ P) -∗ WP d (k ⟨⟩) Q) -∗ WP d (.op (.waitDma2 i S (cut M' b') h1 h2) k) Q) := by
  subst hP
  unfold due
  refine ent ?_ (wp_wait1 m K d (rounds_one i hi) hN (.zero _))
  iintro ⟨#HR, ⟨Ha, Hc⟩, Ho⟩
  isplitr; · iexact HR
  isplitl [Hc]; · iexact Hc
  isplitl [Ho]; · iexact Ho
  iexact Ha

/-- What chunk `c` needs in the fifth phase, -/
def preE (c : Fin 10) : sProp 𝕄 :=
  iprop(due d (iYs c) (nb c) ∗ due d (iXs c) (nb c) ∗ due d (iZs c) (nb c) ∗ due d (iOo c) (nb c) ∗ due d (iOz c) (nb c) ∗ due d (iOx c) (nb c))

/-- and what it leaves of it. -/
def postE (c : Fin 10) : sProp 𝕄 :=
  iprop((semVal (cel d (iYs c)) 0 ∗ semVal (cel d (iXs c)) 0 ∗ semVal (cel d (iZs c)) 0 ∗ semVal (cel d (iOo c)) 0 ∗ semVal (cel d (iOz c)) 0
      ∗ semVal (cel d (iOx c)) 0)
    ∗ ownsTc d (cut bs (ck c)) qL (sV m d c)
    ∗ (ownsTc d (cut by' (ck c)) qL (yV m d c) ∗ ownsTc d (cut by' (ck c)) qRL (yV m d c) ∗ ownsTc d (cut by' (ck c)) qRR (yV m d c))
    ∗ ownsTc d (cut bzr (ck c)) qL (yV m (nz d) c) ∗ ownsTc d (cut bxr (ck c)) qL (yV m (nx d) c)
    ∗ ownsTc d (cut bo (ckOwn d c)) fullShare (yV m d c) ∗ ownsTc d (cut bo (ckZ d c)) fullShare (yV m (nz d) c)
    ∗ ownsTc d (cut bo (ckX d c)) fullShare (yV m (nx d) c))

/-- The fifth phase of chunk `c`. -/
theorem step_E (c : Fin 10) (Q : PUnit → sProp 𝕄) :
    iprop((Rec m K ∗ preE d c) ∗ Ows d 0) ⊢ iprop(((postE m d c ∗ Ows d 0) -∗ Q ⟨⟩) -∗ WP d (pE d c) Q) := by
  unfold preE
  iintro ⟨⟨#HR, Hys, Hxs, Hzs, Hoo, Hoz, Hox⟩, Ho⟩ Hk
  unfold pE
  simp only [Prog.lift, Prog.bind_op, Prog.bind_ret]
  iapply (wp_last m K d (M' := bs) (b' := ck c) (i := iYs c) (by dsimp only [iYs]; omega) (amt_ys c) (pay_ys m d c)) $$ [Hys Ho]
  · isplitr; · iexact HR
    isplitl [Hys]; · iexact Hys
    iexact Ho
  iintro ⟨Ho, Zys, Pys⟩
  iapply (wp_last m K d (M' := by') (b' := ck c) (i := iXs c) (by dsimp only [iXs]; omega) (amt_xs c) (pay_xs m d c)) $$ [Hxs Ho]
  · isplitr; · iexact HR
    isplitl [Hxs]; · iexact Hxs
    iexact Ho
  iintro ⟨Ho, Zxs, Pxs⟩
  iapply (wp_last m K d (M' := by') (b' := ck c) (i := iZs c) (by dsimp only [iZs]; omega) (amt_zs c) (pay_zs m d c)) $$ [Hzs Ho]
  · isplitr; · iexact HR
    isplitl [Hzs]; · iexact Hzs
    iexact Ho
  iintro ⟨Ho, Zzs, Pzs⟩
  iapply (wp_last m K d (M' := bo) (b' := ckOwn d c) (i := iOo c) (by dsimp only [iOo]; omega) (amt_oo c) (pay_oo m d c)) $$ [Hoo Ho]
  · isplitr; · iexact HR
    isplitl [Hoo]; · iexact Hoo
    iexact Ho
  iintro ⟨Ho, Zoo, Poo, Poo'⟩
  iapply (wp_last m K d (M' := bo) (b' := ckZ d c) (i := iOz c) (by dsimp only [iOz]; omega) (amt_oz c) (pay_oz m d c)) $$ [Hoz Ho]
  · isplitr; · iexact HR
    isplitl [Hoz]; · iexact Hoz
    iexact Ho
  iintro ⟨Ho, Zoz, Poz, Poz'⟩
  iapply (wp_last m K d (M' := bo) (b' := ckX d c) (i := iOx c) (by dsimp only [iOx]; omega) (amt_ox c) (pay_ox m d c)) $$ [Hox Ho]
  · isplitr; · iexact HR
    isplitl [Hox]; · iexact Hox
    iexact Ho
  iintro ⟨Ho, Zox, Pox, Pox'⟩
  rw [WP_ret]; imodintro
  iapply Hk
  unfold postE
  isplitr [Ho]
  · isplitl [Zys Zxs Zzs Zoo Zoz Zox]
    · isplitl [Zys]; · iexact Zys
      isplitl [Zxs]; · iexact Zxs
      isplitl [Zzs]; · iexact Zzs
      isplitl [Zoo]; · iexact Zoo
      isplitl [Zoz]; · iexact Zoz
      iexact Zox
    isplitl [Pys]; · iexact Pys
    isplitl [Pxs Pzs Poo']
    · isplitl [Pxs]; · iexact Pxs
      isplitl [Pzs]; · iexact Pzs
      iexact Poo'
    isplitl [Poz']; · iexact Poz'
    isplitl [Pox']; · iexact Pox'
    isplitl [Poo]; · iexact Poo
    isplitl [Poz]; · iexact Poz
    iexact Pox
  iexact Ho

/-- What chunks `j` of the halves need in the last phase, -/
def preF (j : Fin 5) : sProp 𝕄 :=
  iprop(due d (iFxs j) (nb (lo j)) ∗ due d (iOdx j) (nb (lo j)) ∗ due d (iFzs j) (nb (hi j)) ∗ due d (iOdz j) (nb (hi j)))

/-- and what it leaves of them. -/
def postF (j : Fin 5) : sProp 𝕄 :=
  iprop((semVal (cel d (iFxs j)) 0 ∗ semVal (cel d (iOdx j)) 0 ∗ semVal (cel d (iFzs j)) 0 ∗ semVal (cel d (iOdz j)) 0)
    ∗ ownsTc d (cut bzr (ck (lo j))) qR (yV m (nz d) (lo j)) ∗ ownsTc d (cut bxr (ck (hi j))) qR (yV m (nx d) (hi j))
    ∗ ownsTc d (cut bdx (ckLo j)) fullShare (yV m (nx (nz d)) (lo j)) ∗ ownsTc d (cut bdz (ckHi j)) fullShare (yV m (nx (nz d)) (hi j))
    ∗ ownsTc d (cut bo (ckD d (lo j))) fullShare (yV m (nx (nz d)) (lo j)) ∗ ownsTc d (cut bo (ckD d (hi j))) fullShare (yV m (nx (nz d)) (hi j)))

/-- The last phase of chunks `j` of the halves. -/
theorem step_F (j : Fin 5) (Q : PUnit → sProp 𝕄) :
    iprop((Rec m K ∗ preF d j) ∗ Ows d 0) ⊢ iprop(((postF m d j ∗ Ows d 0) -∗ Q ⟨⟩) -∗ WP d (pF d j) Q) := by
  unfold preF
  iintro ⟨⟨#HR, Hfx, Hox, Hfz, Hoz⟩, Ho⟩ Hk
  unfold pF
  simp only [Prog.lift, Prog.bind_op, Prog.bind_ret]
  iapply (wp_last m K d (M' := bzr) (b' := ck (lo j)) (i := iFxs j) (by dsimp only [iFxs]; omega) (amt_fxs j) (pay_fxs m d j)) $$ [Hfx Ho]
  · isplitr; · iexact HR
    isplitl [Hfx]; · iexact Hfx
    iexact Ho
  iintro ⟨Ho, Zfx, Pfx⟩
  iapply (wp_last m K d (M' := bo) (b' := ckD d (lo j)) (i := iOdx j) (by dsimp only [iOdx]; omega) (amt_odx j) (pay_odx m d j)) $$ [Hox Ho]
  · isplitr; · iexact HR
    isplitl [Hox]; · iexact Hox
    iexact Ho
  iintro ⟨Ho, Zox, Pox, Pox'⟩
  iapply (wp_last m K d (M' := bxr) (b' := ck (hi j)) (i := iFzs j) (by dsimp only [iFzs]; omega) (amt_fzs j) (pay_fzs m d j)) $$ [Hfz Ho]
  · isplitr; · iexact HR
    isplitl [Hfz]; · iexact Hfz
    iexact Ho
  iintro ⟨Ho, Zfz, Pfz⟩
  iapply (wp_last m K d (M' := bo) (b' := ckD d (hi j)) (i := iOdz j) (by dsimp only [iOdz]; omega) (amt_odz j) (pay_odz m d j)) $$ [Hoz Ho]
  · isplitr; · iexact HR
    isplitl [Hoz]; · iexact Hoz
    iexact Ho
  iintro ⟨Ho, Zoz, Poz, Poz'⟩
  rw [WP_ret]; imodintro
  iapply Hk
  unfold postF
  isplitr [Ho]
  · isplitl [Zfx Zox Zfz Zoz]
    · isplitl [Zfx]; · iexact Zfx
      isplitl [Zox]; · iexact Zox
      isplitl [Zfz]; · iexact Zfz
      iexact Zoz
    isplitl [Pfx]; · iexact Pfx
    isplitl [Pfz]; · iexact Pfz
    isplitl [Pox']; · iexact Pox'
    isplitl [Poz']; · iexact Poz'
    isplitl [Pox]; · iexact Pox
    iexact Poz
  iexact Ho

end Cert.KernelIdeal.Exch

end
-- ==== Proof.Buffers.lean ====
/-
The buffers cut into the blocks of rows that the protocol deals with, and put together again.
-/
module

public import proofs.«01_k».proof.Proof.Steps

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (d : Dev nD)

/-! ## A buffer that blocks tile -/

/-- The blocks `b` tile the rows of a buffer. -/
structure Tiled {ι : Type} {R : ℕ} {n : ι → ℕ} (b : ∀ i, Cut R (n i)) : Prop where
  apart : ∀ i j, i ≠ j → (b i).off 0 + n i ≤ (b j).off 0 ∨ (b j).off 0 + n j ≤ (b i).off 0
  cover : ∀ r : ℕ, r < R → ∃ i, (b i).off 0 ≤ r ∧ r < (b i).off 0 + n i

section Tiled

variable {ι : Type} [Fintype ι] [DecidableEq ι] {sp : Space} {e : EltTy} {R : ℕ} {n : ι → ℕ} {b : ∀ i, Cut R (n i)}

theorem Tiled.disjoint (h : Tiled b) (i j : ι) (hij : i ≠ j) : Disjoint (b i).rect.set (b j).rect.set :=
  Rect.unit_disjoint (0 : Fin 2) (h.apart i j hij)

theorem Tiled.all (h : Tiled b) : (Finset.univ : Finset ι).biUnion (fun i => (b i).rect.set) = Finset.univ := by
  refine Finset.eq_univ_of_forall fun x => ?_
  obtain ⟨i, h0, h1⟩ := h.cover (x 0).val (x 0).isLt
  refine Finset.mem_biUnion.mpr ⟨i, Finset.mem_univ _, (Rect.mem_set_unit (s := Rows R)).mpr fun a => ?_⟩
  match a with
  | 0 => exact ⟨h0, h1⟩
  | 1 => rw [(b i).col]; exact ⟨Nat.zero_le _, by have := (x 1).isLt; rw [Nat.zero_add]; exact this⟩

omit [FloatOps F] in
/-- The blocks taken apart, each with its part of the contents, -/
theorem owns_cuts (h : Tiled b) (M : Memref sig .tc sp (Rows R) e) (q : PosShare TreeShare) (X : (Rows R).Idx → Elt F e) :
    ownsTc d M q X ⊢ (bigSep Finset.univ fun i => ownsTc d (cut M (b i)) q (fun x => X ((b i).rect.emb x)) : sProp 𝕄) :=
  owns_rects (d : Thread nD τ) M q (fun i => (b i).rect) (fun i a => rfl) h.disjoint h.all X

/-- and put together. -/
theorem cuts_owns (h : Tiled b) (M : Memref sig .tc sp (Rows R) e) (q : PosShare TreeShare) (X : (Rows R).Idx → Elt F e) :
    (bigSep Finset.univ fun i => ownsTc d (cut M (b i)) q (fun x => X ((b i).rect.emb x)) : sProp 𝕄) ⊢ ownsTc d M q X :=
  owns_of_rects (d : Thread nD τ) M q (fun i => (b i).rect) (fun i a => rfl) h.disjoint h.all X

omit [FloatOps F] in
/-- The same at any contents. -/
theorem An_cuts (h : Tiled b) (M : Memref sig .tc sp (Rows R) e) :
    An d M ⊢ (bigSep Finset.univ fun i => An d (cut M (b i)) : sProp 𝕄) := by
  unfold An
  iintro ⟨%X, H⟩
  iapply (ent (owns_cuts d h M fullShare X) (bigSep_mono fun i _ => An_of d (M := cut M (b i)) (X := fun x => X ((b i).rect.emb x))))
  iexact H

theorem cuts_An (h : Tiled b) (M : Memref sig .tc sp (Rows R) e) :
    (bigSep Finset.univ fun i => An d (cut M (b i)) : sProp 𝕄) ⊢ An d M := by
  have H : (bigSep Finset.univ fun i => ownsSat (d : Thread nD τ) (cut M (b i)) fullShare (fun _ => True) : sProp 𝕄)
      ⊢ ownsSat (d : Thread nD τ) M fullShare _ :=
    ownsSat_of_rects (d : Thread nD τ) M fullShare (fun i => (b i).rect) (fun i a => rfl) h.disjoint h.all (fun _ _ => True)
  refine ent (bigSep_mono fun i _ => ?_) (ent H ?_)
  · exact (ownsSat_true (d : Thread nD τ) (cut M (b i)) fullShare).2
  · exact ownsSat_any (d : Thread nD τ) M fullShare

end Tiled

/-! ## The blocks that occur -/

theorem ck_tiled : Tiled ck where
  apart := by decide +kernel
  cover := by
    intro r hr
    have h : ∀ q : Fin 16, ∃ c : Fin 10, ST c ≤ q.val * 256 ∧ q.val * 256 + 256 ≤ ST c + SZ c := by decide
    obtain ⟨c, h0, h1⟩ := h ⟨r / 256, by omega⟩
    refine ⟨c, ?_, ?_⟩
    · show ST c ≤ r; dsimp only at h0; omega
    · show r < ST c + SZ c; dsimp only at h1; omega

theorem ckLo_tiled : Tiled ckLo where
  apart := by decide +kernel
  cover := by
    intro r hr
    have h : ∀ q : Fin 8, ∃ c : Fin 5, ST (lo c) ≤ q.val * 256 ∧ q.val * 256 + 256 ≤ ST (lo c) + SZ (lo c) := by decide
    obtain ⟨c, h0, h1⟩ := h ⟨r / 256, by omega⟩
    refine ⟨c, ?_, ?_⟩
    · show ST (lo c) ≤ r; dsimp only at h0; omega
    · show r < ST (lo c) + SZ (lo c); dsimp only at h1; omega

theorem ckHi_tiled : Tiled ckHi where
  apart := by decide +kernel
  cover := by
    intro r hr
    have h : ∀ q : Fin 8, ∃ c : Fin 5, ST (hi c) - 2048 ≤ q.val * 256 ∧ q.val * 256 + 256 ≤ ST (hi c) - 2048 + SZ (hi c) := by decide
    obtain ⟨c, h0, h1⟩ := h ⟨r / 256, by omega⟩
    refine ⟨c, ?_, ?_⟩
    · show ST (hi c) - 2048 ≤ r; dsimp only at h0; omega
    · show r < ST (hi c) - 2048 + SZ (hi c); dsimp only at h1; omega

/-- The two halves of the f32 buffer. -/
theorem reg_tiled : Tiled (fun k : Fin 2 => reg k.val) where
  apart := by decide +kernel
  cover := by
    intro r hr
    refine ⟨⟨r / 512, by omega⟩, ?_, ?_⟩
    · show (r / 512) % 2 * 512 ≤ r; omega
    · show r < (r / 512) % 2 * 512 + 512; omega

/-! ## The quarters of the block of 16384 rows -/

/-- Chunk `c` of the quarter that device `e` reduces. -/
def cQ (e : Dev nD) (c : Fin 10) : Cut 16384 (SZ c) := ckOf ![qr e + ST c, 0] e c ⟨rfl, rfl⟩

theorem ckOf_eq (off : Fin 2 → ℕ) (e : Dev nD) (c : Fin 10) (h : off 0 = qr e + ST c ∧ off 1 = 0) : ckOf off e c h = cQ e c := by
  have : off = ![qr e + ST c, 0] := by
    funext a
    match a with
    | 0 => exact h.1
    | 1 => exact h.2
  subst this; rfl

theorem ckOwn_eq (c : Fin 10) : ckOwn d c = cQ d c := ckOf_eq _ _ _ _
theorem ckFirst_eq : ckFirst d = ckOwn d 0 := (ckOf_eq _ _ _ _).trans (ckOf_eq _ _ _ _).symm
theorem ckZ_eq (c : Fin 10) : ckZ d c = cQ (nz d) c := ckOf_eq _ _ _ _
theorem ckX_eq (c : Fin 10) : ckX d c = cQ (nx d) c := ckOf_eq _ _ _ _
theorem ckD_eq (c : Fin 10) : ckD d c = cQ (nx (nz d)) c := ckOf_eq _ _ _ _

/-- The four devices whose quarters device `d` puts together: itself and its neighbours along `z`, along `x` and across. -/
def own4 : Fin 4 → Dev nD
  | 0 => d | 1 => nz d | 2 => nx d | 3 => nx (nz d)

theorem qr_apart : ∀ (d : Dev nD) (k k' : Fin 4), k ≠ k' → qr (own4 d k) + 4096 ≤ qr (own4 d k') ∨ qr (own4 d k') + 4096 ≤ qr (own4 d k) := by
  decide +kernel
theorem qr_cover : ∀ (d : Dev nD) (q : Fin 4), ∃ k, qr (own4 d k) = q.val * 4096 := by decide +kernel

/-- The chunks of the four quarters. -/
abbrev cQs (p : Fin 4 × Fin 10) : Cut 16384 (SZ p.2) := cQ (own4 d p.1) p.2

theorem cQs_tiled : Tiled (cQs d) where
  apart := by
    rintro ⟨k, c⟩ ⟨k', c'⟩ h
    show qr (own4 d k) + ST c + SZ c ≤ qr (own4 d k') + ST c' ∨ qr (own4 d k') + ST c' + SZ c' ≤ qr (own4 d k) + ST c
    by_cases hk : k = k'
    · subst hk
      have : c ≠ c' := fun h' => h (by rw [h'])
      have := ck_tiled.apart c c' this
      change ST c + SZ c ≤ ST c' ∨ ST c' + SZ c' ≤ ST c at this
      omega
    · have := qr_apart d k k' hk
      have := ST_le c
      have := ST_le c'
      omega
  cover := by
    intro r hr
    obtain ⟨k, hk⟩ := qr_cover d ⟨r / 4096, by omega⟩
    obtain ⟨c, h0, h1⟩ := ck_tiled.cover (r % 4096) (Nat.mod_lt _ (by decide))
    change ST c ≤ _ at h0
    change _ < ST c + SZ c at h1
    refine ⟨(k, c), ?_, ?_⟩
    · show qr (own4 d k) + ST c ≤ r; rw [hk]; dsimp only; omega
    · show r < qr (own4 d k) + ST c + SZ c; rw [hk]; dsimp only; omega

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_two (Φ : Fin 2 → sProp 𝕄) : bigSep Finset.univ Φ = iprop(Φ 0 ∗ Φ 1) :=
  bigSep_univ_eq_bigSepL [0, 1] (by decide) (by decide) Φ

omit [FloatOps F] in
/-- The chunks of the four quarters, quarter by quarter. -/
theorem quarters (Φ : ∀ (e : Dev nD) (c : Fin 10), sProp 𝕄) :
    (bigSep Finset.univ fun p : Fin 4 × Fin 10 => Φ (own4 d p.1) p.2)
      = iprop((bigSep Finset.univ fun c => Φ d c) ∗ (bigSep Finset.univ fun c => Φ (nz d) c) ∗ (bigSep Finset.univ fun c => Φ (nx d) c)
        ∗ bigSep Finset.univ fun c => Φ (nx (nz d)) c) := by
  rw [bigSep_univ_prod, bigSep_four]; rfl

/-! ## The families of semaphores -/

omit [FloatOps F] in
/-- The first `n` from `a` on, and the rest. -/
theorem tlS_run {N : ℕ} (Φ : Fin N → sProp 𝕄) (a n : ℕ) (h : a + n ≤ N) :
    tlS Φ a = iprop((bigSep Finset.univ fun c : Fin n => Φ ⟨a + c.val, by omega⟩) ∗ tlS Φ (a + n)) := by
  have hinj : Function.Injective (fun c : Fin n => (⟨a + c.val, by omega⟩ : Fin N)) := fun c c' h => by
    have := congrArg Fin.val h; dsimp only at this; exact Fin.ext (by omega)
  have hs : (Finset.univ.filter fun k : Fin N => a ≤ k.val)
      = Finset.univ.map ⟨_, hinj⟩ ∪ Finset.univ.filter fun k : Fin N => a + n ≤ k.val := by
    ext k
    simp only [Finset.mem_filter, Finset.mem_univ, true_and, Finset.mem_union, Finset.mem_map, Function.Embedding.coeFn_mk]
    constructor
    · intro hk
      by_cases h' : a + n ≤ k.val
      · exact .inr h'
      · exact .inl ⟨⟨k.val - a, by omega⟩, Fin.ext (by dsimp only; omega)⟩
    · rintro (⟨c, rfl⟩ | h')
      · dsimp only; omega
      · omega
  unfold tlS
  rw [hs, bigSep_union, bigSep_map]; · rfl
  rw [Finset.disjoint_left]
  intro k hk hk'
  simp only [Finset.mem_map, Finset.mem_univ, true_and, Function.Embedding.coeFn_mk, Finset.mem_filter] at hk hk'
  obtain ⟨c, rfl⟩ := hk
  dsimp only at hk'
  have := c.2
  omega

omit [FloatOps F] in
theorem sep_emp_eq (P : sProp 𝕄) : iprop(P ∗ emp) = P := by
  have h₁ : iprop(P ∗ emp) ⊢ P := by iintro ⟨H, -⟩; iexact H
  have h₂ : P ⊢ iprop(P ∗ emp) := by
    iintro H
    isplitl [H]; · iexact H
    iempintro
  exact BI.equiv_iff.mp ⟨h₁, h₂⟩

omit [FloatOps F] in
/-- The ten chunks, as those of the two halves. -/
theorem tens (Φ : Fin 10 → sProp 𝕄) :
    bigSep Finset.univ Φ = iprop((bigSep Finset.univ fun j => Φ (lo j)) ∗ bigSep Finset.univ fun j => Φ (hi j)) := by
  rw [← tlS_zero, tlS_run Φ 0 5 (by decide), tlS_run Φ (0 + 5) 5 (by decide), tlS_end Φ (0 + 5 + 5) (by decide)]
  rw [show (bigSep Finset.univ fun c : Fin 5 => Φ ⟨0 + c.val, by omega⟩) = bigSep Finset.univ fun j => Φ (lo j) from
    bigSep_congr fun j _ => congrArg Φ (Fin.ext (Nat.zero_add _))]
  rw [sep_emp_eq]; rfl

/-- The cells from the cast sends on, family by family. -/
def fam (Φ : DmaSem sig → sProp 𝕄) : sProp 𝕄 :=
  iprop((bigSep Finset.univ fun c => Φ (iYs c)) ∗ (bigSep Finset.univ fun c => Φ (iYr c))
    ∗ (bigSep Finset.univ fun c => Φ (iXs c)) ∗ (bigSep Finset.univ fun c => Φ (iXr c))
    ∗ (bigSep Finset.univ fun c => Φ (iZs c)) ∗ (bigSep Finset.univ fun c => Φ (iZr c))
    ∗ (bigSep Finset.univ fun j => Φ (iFxs j)) ∗ (bigSep Finset.univ fun j => Φ (iFxr j))
    ∗ (bigSep Finset.univ fun j => Φ (iFzs j)) ∗ (bigSep Finset.univ fun j => Φ (iFzr j))
    ∗ (bigSep Finset.univ fun c => Φ (iOo c)) ∗ (bigSep Finset.univ fun c => Φ (iOx c)) ∗ (bigSep Finset.univ fun c => Φ (iOz c))
    ∗ (bigSep Finset.univ fun j => Φ (iOdx j)) ∗ (bigSep Finset.univ fun j => Φ (iOdz j)) ∗ emp)

omit [FloatOps F] in
theorem fam_eq (Φ : DmaSem sig → sProp 𝕄) : tlS (n := 122) Φ 2 = fam Φ := by
  rw [tlS_run (N := 122) Φ 2 10 (by decide), tlS_run (N := 122) Φ 12 10 (by decide), tlS_run (N := 122) Φ 22 10 (by decide), tlS_run (N := 122) Φ 32 10 (by decide),
    tlS_run (N := 122) Φ 42 10 (by decide), tlS_run (N := 122) Φ 52 10 (by decide), tlS_run (N := 122) Φ 62 5 (by decide), tlS_run (N := 122) Φ 67 5 (by decide),
    tlS_run (N := 122) Φ 72 5 (by decide), tlS_run (N := 122) Φ 77 5 (by decide), tlS_run (N := 122) Φ 82 10 (by decide), tlS_run (N := 122) Φ 92 10 (by decide),
    tlS_run (N := 122) Φ 102 10 (by decide), tlS_run (N := 122) Φ 112 5 (by decide), tlS_run (N := 122) Φ 117 5 (by decide), tlS_end (n := 122) Φ (117 + 5) (by decide)]
  rfl

omit [FloatOps F] in
/-- All DMA cells of a device: the two of the input's copies and the families. -/
theorem dma_eq (Φ : DmaSem sig → sProp 𝕄) : (bigSep Finset.univ Φ : sProp 𝕄) = iprop(Φ (ldI 0) ∗ Φ (ldI 1) ∗ fam Φ) := by
  rw [← fam_eq]
  refine ((tlS_zero (n := 122) Φ).symm.trans (tlS_step (n := 122) Φ (0 : Fin 122))).trans ?_
  exact congrArg _ (tlS_step (n := 122) Φ (1 : Fin 122))

end Cert.KernelIdeal.Exch

end
-- ==== Proof.Entry.lean ====
/-
The body's run: the entry, the seven loops one after the other, and what they leave.
-/
module

public import proofs.«01_k».proof.Proof.Buffers

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (d : Dev nD)

/-! ## The entry -/

/-- A signal to a neighbour's barrier: its duty `k`, with what that hands over. -/
theorem wp_sig {n : ℕ} {e : Dev nD} (hn : n = e.val) (k : Fin 3) (O : CellTallies nD τ sig Unit) {kt : PUnit → Pr F} {Q : PUnit → sProp 𝕄} :
    iprop(Rec m K ∗ Ows d (O + tallyAt (bar e) () 1) ∗ dutyTok ER (bar e) 0 k ∗ barPay e k)
      ⊢ iprop((Ows d O -∗ WP d (kt ⟨⟩) Q) -∗ WP d (semSignalWord (devOf n e hn) barS 1#32 >>= kt) Q) := by
  subst hn
  simp only [semSignalWord, Prog.bind_op, Prog.bind_ret]
  unfold Ows
  iintro ⟨#HR, ⟨%W, Ho⟩, Ht, Hp⟩ Hk
  iapply (Rounds.wp_signal 𝒱₀ ER (Rd m) (d : Thread nD τ) none (dst := (e : Thread nD τ)) (κ := K (e, .reg barS)) (r := 0)
    (d := k) (by rw [duties_bar]; exact Finset.mem_univ _) (show (Rd m).amount (bar e) 0 k = 1 from rfl) () O rfl) $$ [Ho Ht Hp]
  · isplitr; · iapply (Rec_inv m K (e, .reg barS)); iexact HR
    isplitl [Ho]; · iexact Ho
    isplitl [Ht]; · iexact Ht
    isplitl [Hp]; · iapply (show barPay e k ⊢ (Rd m).payload (bar e) 0 k from .rfl); iexact Hp
    iapply (Rec_reached m K (e, .reg barS)); iexact HR
  iintro Ho
  iapply Hk
  iexists W; iexact Ho

/-- All that a device owes at its start. -/
def oStart : CellTallies nD τ sig Unit := oA d 0 + tallyAt (bar (nz d)) () 1 + tallyAt (bar (nx d)) () 1 + tallyAt (bar (ny d)) () 1

/-- What the entry needs. -/
def preI : sProp 𝕄 :=
  iprop(Ows d (oStart d) ∗ (dutyTok ER (bar (ny d)) 0 0 ∗ dutyTok ER (bar (nx d)) 0 1 ∗ dutyTok ER (bar (nz d)) 0 2)
    ∗ (lendY d ∗ lendX d ∗ lendZ d) ∗ (atPos ER (bar d) 0 ∅ 0 ∗ cred (tallyAt (bar d) () 3)) ∗ preL m d 0 ∗ An d (cut bf (reg 0)))

/-- The entry: the neighbours are signalled, the first copy started, the neighbours waited for; their buffers come with it. -/
theorem step_I {kt : PUnit → Pr F} {Q : PUnit → sProp 𝕄} :
    iprop(Rec m K ∗ preI m d)
      ⊢ iprop(((Ows d (oA d 0) ∗ semVal (bar d) 0 ∗ (lendY (ny d) ∗ lendX (nx d) ∗ lendZ (nz d)) ∗ fly d 0) -∗ WP d (kt ⟨⟩) Q)
        -∗ WP d (pEntry d >>= kt) Q) := by
  unfold preI oStart
  iintro ⟨#HR, Ho, ⟨T0, T1, T2⟩, ⟨Ly, Lx, Lz⟩, ⟨Ha, Hc⟩, Hl, Hreg⟩ Hk
  unfold pEntry
  simp only [bind_assoc]
  iapply (wp_sig m K d (dev1_eq d) 0 _) $$ [Ho T0 Ly]
  · isplitr; · iexact HR
    isplitl [Ho]; · iexact Ho
    isplitl [T0]; · iexact T0
    iapply (show lendY d ⊢ barPay (ny d) 0 from Entails.of_eq (by show lendY d = lendY (ny (ny d)); rw [ny_ny])); iexact Ly
  iintro Ho
  iapply (wp_sig m K d (dev2_eq d) 1 _) $$ [Ho T1 Lx]
  · isplitr; · iexact HR
    isplitl [Ho]; · iexact Ho
    isplitl [T1]; · iexact T1
    iapply (show lendX d ⊢ barPay (nx d) 1 from Entails.of_eq (by show lendX d = lendX (nx (nx d)); rw [nx_nx])); iexact Lx
  iintro Ho
  iapply (wp_sig m K d (dev3_eq d) 2 _) $$ [Ho T2 Lz]
  · isplitr; · iexact HR
    isplitl [Ho]; · iexact Ho
    isplitl [T2]; · iexact T2
    iapply (show lendZ d ⊢ barPay (nz d) 2 from Entails.of_eq (by show lendZ d = lendZ (nz (nz d)); rw [nz_nz])); iexact Lz
  iintro Ho
  iapply (wp_pLoad m K d 0 (ckFirst d) (ckFirst_eq d)) $$ [Hl Hreg]
  · isplitr; · iexact HR
    isplitr; · iapply (Rec_reached m K (d, .dma (ldI 0))); iexact HR
    isplitl [Hl]; · iexact Hl
    iexact Hreg
  iintro Hf
  simp only [semWaitWord, Prog.bind_op, Prog.bind_ret]
  unfold Ows
  icases Ho with ⟨%W, Ho⟩
  iapply (Rounds.wp_wait_rest_token 𝒱₀ ER (Rd m) (d : Thread nD τ) none (κ := K (d, .reg barS))
      (wpE_semWait_eq 𝒱₀ (d : Thread nD τ) none Set.univ) (Set.mem_univ _) () (O := oA d 0) (W := W) (R := 0) (m := 0) (T := ∅)
      (by rw [expect_bar]; decide)) $$ [Hc Ho Ha]
  · isplitr; · iapply (Rec_inv m K (d, .reg barS)); iexact HR
    isplitl [Hc]; · iexact Hc
    isplitl [Ho]; · iexact Ho
    isplitr
    · iapply (mayWait d (.reg barS) (above_oA d 0)); iapply (Rec_lev m K); iexact HR
    iexact Ha
  iintro ⟨Ho, Ha, -, Hpay⟩
  ihave Hp := (Entails.of_eq (rest_bar m d)) $$ Hpay
  imod (Rounds.cell_close ER (Rd m) (Set.mem_univ (K (d, .reg barS))) (fun h => h) (R := 0 + 1) (fun r h => duties_bar_later m d r h)) $$ [Ha] with Hz
  · isplitr; · iapply (Rec_inv m K (d, .reg barS)); iexact HR
    iexact Ha
  iapply Hk
  isplitl [Ho]; · iexists _; iexact Ho
  isplitl [Hz]; · iexact Hz
  isplitl [Hp]; · iexact Hp
  iexact Hf

/-! ## The loops -/

/-- A loop whose passes use the records. -/
theorem wp_loopR (n : ℕ) (f : Fin n → Pr F) (A B : Fin n → sProp 𝕄) (C : ℕ → sProp 𝕄)
    (h : ∀ (i : Fin n) (Q : PUnit → sProp 𝕄), iprop((Rec m K ∗ A i) ∗ C i.val) ⊢ iprop(((B i ∗ C (i.val + 1)) -∗ Q ⟨⟩) -∗ WP d (f i) Q))
    {kt : PUnit → Pr F} {Q : PUnit → sProp 𝕄} :
    iprop(Rec m K ∗ bigSep Finset.univ A ∗ C 0)
      ⊢ iprop(((bigSep Finset.univ B ∗ C n) -∗ WP d (kt ⟨⟩) Q) -∗ WP d (loop n f >>= kt) Q) := by
  rw [WP_bind]
  iintro ⟨#HR, HA, HC⟩ Hk
  iapply (wp_loop d n f A B (fun t => iprop(Rec m K ∗ C t)) (fun i Q => by
    iintro ⟨HA, #HR, HC⟩ Hk
    iapply (h i Q) $$ [HA HC]
    · isplitl [HA]
      · isplitr; · iexact HR
        iexact HA
      iexact HC
    iintro ⟨HB, HC⟩
    iapply Hk
    isplitl [HB]; · iexact HB
    isplitr; · iexact HR
    iexact HC) _) $$ [HA HC]
  · isplitl [HA]; · iexact HA
    isplitr; · iexact HR
    iexact HC
  iintro ⟨HB, #HR, HC⟩
  iapply Hk
  isplitl [HB]; · iexact HB
  iexact HC

end Cert.KernelIdeal.Exch

end
-- ==== Proof.Run.lean ====
/-
The body's run from what the launch deals a device to what it ends with.
-/
module

public import proofs.«01_k».proof.Proof.Entry

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (d : Dev nD)

/-! ## What a device starts with -/

/-- Its positions at its own cells. -/
def posn : sProp 𝕄 := iprop(atPos ER (bar d) 0 ∅ 0 ∗ bigSep Finset.univ fun i : DmaSem sig => atPos ER (cel d i) 0 ∅ 0)

/-- The tokens of the duties that it pays. -/
def pays : sProp 𝕄 :=
  iprop((dutyTok ER (bar (ny d)) 0 0 ∗ dutyTok ER (bar (nx d)) 0 1 ∗ dutyTok ER (bar (nz d)) 0 2)
    ∗ (bigSep Finset.univ fun c : Fin 10 => dutyTok ER (cel d (iLd c)) (c.val / 2) 0)
    ∗ (bigSep Finset.univ fun c : Fin 10 => dutyTok ER (cel d (iYs c)) 0 0) ∗ (bigSep Finset.univ fun c : Fin 10 => dutyTok ER (cel (ny d) (iYr c)) 0 0)
    ∗ (bigSep Finset.univ fun c : Fin 10 => dutyTok ER (cel d (iXs c)) 0 0) ∗ (bigSep Finset.univ fun c : Fin 10 => dutyTok ER (cel (nx d) (iXr c)) 0 0)
    ∗ (bigSep Finset.univ fun c : Fin 10 => dutyTok ER (cel d (iZs c)) 0 0) ∗ (bigSep Finset.univ fun c : Fin 10 => dutyTok ER (cel (nz d) (iZr c)) 0 0)
    ∗ (bigSep Finset.univ fun j : Fin 5 => dutyTok ER (cel d (iFxs j)) 0 0) ∗ (bigSep Finset.univ fun j : Fin 5 => dutyTok ER (cel (nx d) (iFxr j)) 0 0)
    ∗ (bigSep Finset.univ fun j : Fin 5 => dutyTok ER (cel d (iFzs j)) 0 0) ∗ (bigSep Finset.univ fun j : Fin 5 => dutyTok ER (cel (nz d) (iFzr j)) 0 0)
    ∗ (bigSep Finset.univ fun c : Fin 10 => dutyTok ER (cel d (iOo c)) 0 0) ∗ (bigSep Finset.univ fun c : Fin 10 => dutyTok ER (cel d (iOx c)) 0 0)
    ∗ (bigSep Finset.univ fun c : Fin 10 => dutyTok ER (cel d (iOz c)) 0 0)
    ∗ (bigSep Finset.univ fun j : Fin 5 => dutyTok ER (cel d (iOdx j)) 0 0) ∗ (bigSep Finset.univ fun j : Fin 5 => dutyTok ER (cel d (iOdz j)) 0 0))

/-- The credits of what its neighbours will bring. -/
def crds : sProp 𝕄 :=
  iprop(cred (tallyAt (bar d) () 3) ∗ (bigSep Finset.univ fun c : Fin 10 => cred (tallyAt (cel d (iYr c)) () (nb c)))
    ∗ (bigSep Finset.univ fun c : Fin 10 => cred (tallyAt (cel d (iXr c)) () (nb c)))
    ∗ (bigSep Finset.univ fun c : Fin 10 => cred (tallyAt (cel d (iZr c)) () (nb c)))
    ∗ (bigSep Finset.univ fun j : Fin 5 => cred (tallyAt (cel d (iFxr j)) () (nb (lo j))))
    ∗ (bigSep Finset.univ fun j : Fin 5 => cred (tallyAt (cel d (iFzr j)) () (nb (hi j)))))

/-- Its scratch buffers, in the blocks that the protocol deals with. -/
def scr : sProp 𝕄 :=
  iprop((bigSep Finset.univ fun c : Fin 10 => An d (cut bs (ck c))) ∗ (lendY d ∗ lendX d ∗ lendZ d) ∗ An d (cut bf (reg 0)) ∗ An d (cut bf (reg 1)))

/-- Its quarter of its input. -/
def inp : sProp 𝕄 := bigSep Finset.univ fun c : Fin 10 => ownsTc d (cut bx (ckOwn d c)) fullShare (xV m d c)

/-- Its result's rows, before and after. -/
def out0 : sProp 𝕄 :=
  iprop((bigSep Finset.univ fun c : Fin 10 => An d (cut bo (ckOwn d c))) ∗ (bigSep Finset.univ fun c : Fin 10 => An d (cut bo (ckZ d c)))
    ∗ (bigSep Finset.univ fun c : Fin 10 => An d (cut bo (ckX d c))) ∗ (bigSep Finset.univ fun c : Fin 10 => An d (cut bo (ckD d c))))
def out1 : sProp 𝕄 :=
  iprop((bigSep Finset.univ fun c : Fin 10 => ownsTc d (cut bo (ckOwn d c)) fullShare (yV m d c))
    ∗ (bigSep Finset.univ fun c : Fin 10 => ownsTc d (cut bo (ckZ d c)) fullShare (yV m (nz d) c))
    ∗ (bigSep Finset.univ fun c : Fin 10 => ownsTc d (cut bo (ckX d c)) fullShare (yV m (nx d) c))
    ∗ (bigSep Finset.univ fun c : Fin 10 => ownsTc d (cut bo (ckD d c)) fullShare (yV m (nx (nz d)) c)))

/-- What the run starts with, -/
def start : sProp 𝕄 := iprop(Ows d (oStart d) ∗ posn d ∗ pays d ∗ crds d ∗ scr d ∗ inp m d ∗ out0 d)

/-- and what it ends with. -/
def finish : sProp 𝕄 :=
  iprop(Ows d 0 ∗ semVal (bar d) 0 ∗ (bigSep Finset.univ fun i : DmaSem sig => semVal (cel d i) 0) ∗ scr d ∗ inp m d ∗ out1 m d)

/-! ## Shares put together -/

section Shares

variable {I : Type} {sp : Space} {e : EltTy} {n : I → ℕ} (M : ∀ i, Memref sig .tc sp (Rows (n i)) e) (X : ∀ i, (Rows (n i)).Idx → Elt F e) (s : Finset I)

omit [FloatOps F] in
theorem join2 : iprop((bigSep s fun i => ownsTc d (M i) qL (X i)) ∗ bigSep s fun i => ownsTc d (M i) qR (X i)) ⊢ (bigSep s fun i => An d (M i) : sProp 𝕄) := by
  rw [← bigSep_sep']
  exact bigSep_mono fun i _ => ent (owns_halves (d : Thread nD τ) (M i) fullShare (X i)).2 (An_of d)

omit [FloatOps F] in
theorem join3 : iprop((bigSep s fun i => ownsTc d (M i) qL (X i)) ∗ (bigSep s fun i => ownsTc d (M i) qRL (X i)) ∗ bigSep s fun i => ownsTc d (M i) qRR (X i))
    ⊢ (bigSep s fun i => An d (M i) : sProp 𝕄) := by
  rw [← bigSep_sep', ← bigSep_sep']
  refine bigSep_mono fun i _ => show iprop(ownsTc d (M i) qL (X i) ∗ ownsTc d (M i) qRL (X i) ∗ ownsTc d (M i) qRR (X i)) ⊢ An d (M i) from ?_
  iintro ⟨H1, H2, H3⟩
  ihave H := (owns_halves (d : Thread nD τ) (M i) fullShare.right (X i)).2 $$ [H2 H3]
  · isplitl [H2]; · iexact H2
    iexact H3
  iapply (ent (owns_halves (d : Thread nD τ) (M i) fullShare (X i)).2 (An_of d))
  isplitl [H1]; · iexact H1
  iexact H

omit [FloatOps F] in
theorem forget : (bigSep s fun i => ownsTc d (M i) fullShare (X i)) ⊢ (bigSep s fun i => An d (M i) : sProp 𝕄) :=
  bigSep_mono fun i _ => An_of d

end Shares

/-! ## The run -/

theorem oA_end : oA d 10 = oB d 0 := by unfold oA; rw [tl_end, add_zero]
theorem oB_end : oB d 10 = oLo d 0 := by unfold oB; rw [tl_end, add_zero]
theorem oLo_end : oLo d 5 = oHi d 0 := by unfold oLo; rw [tl_end, add_zero]
theorem oHi_end : oHi d 5 = 0 := by unfold oHi; rw [tl_end]

theorem Ows_eq {O O' : CellTallies nD τ sig Unit} (h : O = O') : (Ows d O : sProp 𝕄) ⊢ Ows d O' := by subst h; iintro H; iexact H

/-- What the first phase carries at its start. -/
theorem CA_start : iprop(Ows d (oA d 0) ∗ atPos ER (cel d (ldI 0)) 0 ∅ 0 ∗ atPos ER (cel d (ldI 1)) 0 ∅ 0
    ∗ reached ER (cel d (ldI 1)) 0 ∗ An d (cut bf (reg 1)) ∗ fly d 0 ∗ tlS (preL m d) 1) ⊢ CA m d 0 := .rfl

/-- What the first phase carries at its end: the f32 buffer, and its two cells after their last rounds. -/
theorem CA_end : CA m d 10 ⊢ iprop(Ows d (oB d 0) ∗ atPos ER (cel d (ldI 0)) 5 ∅ 0 ∗ atPos ER (cel d (ldI 1)) 5 ∅ 0
    ∗ An d (cut bf (reg 0)) ∗ An d (cut bf (reg 1))) := by
  unfold CA
  rw [oA_end, fly_end d 10 (by decide), show ldI 10 = ldI 0 from rfl, show ldI (10 + 1) = ldI 1 from rfl,
    show reg 10 = reg 0 from rfl, show reg (10 + 1) = reg 1 from rfl]
  iintro ⟨Ho, Ha, Ha', -, Hr', Hr, -⟩
  isplitl [Ho]; · iexact Ho
  isplitl [Ha]; · iexact Ha
  isplitl [Ha']; · iexact Ha'
  isplitl [Hr]; · iexact Hr
  iexact Hr'

theorem preL_all : iprop((bigSep Finset.univ fun c : Fin 10 => ownsTc d (cut bx (ckOwn d c)) fullShare (xV m d c))
    ∗ bigSep Finset.univ fun c : Fin 10 => dutyTok ER (cel d (iLd c)) (c.val / 2) 0) ⊢ iprop(preL m d 0 ∗ tlS (preL m d) 1) := by
  rw [← bigSep_sep']
  exact Entails.of_eq ((tlS_zero (preL m d)).symm.trans (tlS_step (preL m d) (0 : Fin 10)))

set_option maxHeartbeats 1600000 in
/-- The run of the body. -/
theorem run_body (Q : PUnit → sProp 𝕄) : iprop(Rec m K ∗ start m d) ⊢ iprop((finish m d -∗ Q ⟨⟩) -∗ WP d body Q) := by
  unfold start posn pays crds scr inp out0
  rw [dma_eq]
  unfold fam lendY lendX lendZ
  iintro ⟨#HR, Ho, ⟨Abar, A0, A1, Ays, Ayr, Axs, Axr, Azs, Azr, Afxs, Afxr, Afzs, Afzr, Aoo, Aox, Aoz, Aodx, Aodz, -⟩,
    ⟨Tbar, Tld, Tys, Tyr, Txs, Txr, Tzs, Tzr, Tfxs, Tfxr, Tfzs, Tfzr, Too, Tox, Toz, Todx, Todz⟩,
    ⟨Cbar, Cyr, Cxr, Czr, Cfxr, Cfzr⟩, ⟨Bs, ⟨By, ⟨Bxr, Bdx⟩, Bzr, Bdz⟩, Bf0, Bf1⟩, Hx, ⟨Oo, Oz, Ox, Od⟩⟩ Hk
  unfold body
  simp only [Prog.lift, Prog.bind_op, Prog.bind_ret, wp_deviceId]
  ihave HL := (preL_all m d) $$ [Hx Tld]
  · isplitl [Hx]; · iexact Hx
    iexact Tld
  icases HL with ⟨HL0, HL⟩
  -- the entry
  iapply (step_I m K d) $$ [Ho Tbar By Bxr Bdx Bzr Bdz Abar Cbar HL0 Bf0]
  · isplitr; · iexact HR
    unfold preI lendY lendX lendZ
    isplitl [Ho]; · iexact Ho
    isplitl [Tbar]; · iexact Tbar
    isplitl [By Bxr Bdx Bzr Bdz]
    · isplitl [By]; · iexact By
      isplitl [Bxr Bdx]
      · isplitl [Bxr]; · iexact Bxr
        iexact Bdx
      isplitl [Bzr]; · iexact Bzr
      iexact Bdz
    isplitl [Abar Cbar]
    · isplitl [Abar]; · iexact Abar
      iexact Cbar
    isplitl [HL0]; · iexact HL0
    iexact Bf0
  unfold lendY lendX lendZ
  iintro ⟨Ho, Zbar, ⟨Ny, ⟨Nxr, Ndx⟩, Nzr, Ndz⟩, Hf⟩
  -- the first phase
  iapply (wp_loopR m K d 10 (pA d) (preA d) (postA m d) (CA m d) (step_A m K d)) $$ [Ho A0 A1 Bf1 Hf HL Bs Ny Tys Tyr]
  · isplitr; · iexact HR
    isplitl [Bs Ny Tys Tyr]
    · unfold preA; simp only [bigSep_sep']
      isplitl [Bs]; · iexact Bs
      isplitl [Ny]; · iexact Ny
      isplitl [Tys]; · iexact Tys
      iexact Tyr
    iapply (CA_start m d)
    isplitl [Ho]; · iexact Ho
    isplitl [A0]; · iexact A0
    isplitl [A1]; · iexact A1
    isplitr; · iapply (Rec_reached m K (d, .dma (ldI 1))); iexact HR
    isplitl [Bf1]; · iexact Bf1
    isplitl [Hf]; · iexact Hf
    iexact HL
  unfold postA; simp only [bigSep_sep']
  iintro ⟨⟨Hx, Bs, Cys⟩, HC⟩
  ihave H := (CA_end m d) $$ HC
  icases H with ⟨Ho, A0, A1, Bf0, Bf1⟩
  imod (close m K d (i := ldI 0) (r := 5) (by decide)) $$ [A0] with Z0
  · isplitr; · iexact HR
    iexact A0
  imod (close m K d (i := ldI 1) (r := 5) (by decide)) $$ [A1] with Z1
  · isplitr; · iexact HR
    iexact A1
  -- the second phase
  iapply (wp_loopR m K d 10 (pB d) (preB m d) (postB m d) (fun c => Ows d (oB d c)) (step_B m K d))
    $$ [Ho Ayr Cyr Bs Nxr Txs Txr Nzr Tzs Tzr Oo Too]
  · isplitr; · iexact HR
    isplitr [Ho]
    · unfold preB; simp only [bigSep_sep']
      isplitl [Ayr]; · iexact Ayr
      isplitl [Cyr]; · iexact Cyr
      isplitl [Bs]; · iexact Bs
      isplitl [Nxr Txs Txr]
      · isplitl [Nxr]; · iexact Nxr
        isplitl [Txs]; · iexact Txs
        iexact Txr
      isplitl [Nzr Tzs Tzr]
      · isplitl [Nzr]; · iexact Nzr
        isplitl [Tzs]; · iexact Tzs
        iexact Tzr
      isplitl [Oo]; · iexact Oo
      iexact Too
    iexact Ho
  unfold postB; simp only [bigSep_sep']
  iintro ⟨⟨Zyr, Bs, Cxs, Czs, Coo⟩, Ho⟩
  ihave Ho := (Ows_eq d (oB_end d)) $$ Ho
  -- the arrivals' needs, by halves
  ihave HZ := (show (_ : sProp 𝕄) ⊢ iprop((bigSep Finset.univ fun j => preZ d (lo j)) ∗ bigSep Finset.univ fun j => preZ d (hi j)) from
    Entails.of_eq (tens (preZ d))) $$ [Azr Czr Oz Toz]
  · unfold preZ; simp only [bigSep_sep']
    isplitl [Azr]; · iexact Azr
    isplitl [Czr]; · iexact Czr
    isplitl [Oz]; · iexact Oz
    iexact Toz
  icases HZ with ⟨HZlo, HZhi⟩
  ihave HX := (show (_ : sProp 𝕄) ⊢ iprop((bigSep Finset.univ fun j => preX d (lo j)) ∗ bigSep Finset.univ fun j => preX d (hi j)) from
    Entails.of_eq (tens (preX d))) $$ [Axr Cxr Ox Tox]
  · unfold preX; simp only [bigSep_sep']
    isplitl [Axr]; · iexact Axr
    isplitl [Cxr]; · iexact Cxr
    isplitl [Ox]; · iexact Ox
    iexact Tox
  icases HX with ⟨HXlo, HXhi⟩
  -- the third phase, first half
  iapply (wp_loopR m K d 5 (pClo d) (fun j => iprop(preZ d (lo j) ∗ preX d (lo j) ∗ preFx d j)) (postClo m d) (fun j => Ows d (oLo d j)) (step_Clo m K d))
    $$ [Ho HZlo HXlo Ndx Tfxs Tfxr]
  · isplitr; · iexact HR
    isplitr [Ho]
    · unfold preFx; simp only [bigSep_sep']
      isplitl [HZlo]; · iexact HZlo
      isplitl [HXlo]; · iexact HXlo
      isplitl [Ndx]; · iexact Ndx
      isplitl [Tfxs]; · iexact Tfxs
      iexact Tfxr
    iexact Ho
  unfold postClo; simp only [bigSep_sep']
  iintro ⟨⟨PZlo, PXlo, Sxlo, Cfxs⟩, Ho⟩
  ihave Ho := (Ows_eq d (oLo_end d)) $$ Ho
  -- second half
  iapply (wp_loopR m K d 5 (pChi d) (fun j => iprop(preZ d (hi j) ∗ preX d (hi j) ∗ preFz d j)) (postChi m d) (fun j => Ows d (oHi d j)) (step_Chi m K d))
    $$ [Ho HZhi HXhi Ndz Tfzs Tfzr]
  · isplitr; · iexact HR
    isplitr [Ho]
    · unfold preFz; simp only [bigSep_sep']
      isplitl [HZhi]; · iexact HZhi
      isplitl [HXhi]; · iexact HXhi
      isplitl [Ndz]; · iexact Ndz
      isplitl [Tfzs]; · iexact Tfzs
      iexact Tfzr
    iexact Ho
  unfold postChi; simp only [bigSep_sep']
  iintro ⟨⟨PZhi, PXhi, Szhi, Cfzs⟩, Ho⟩
  ihave Ho := (Ows_eq d (oHi_end d)) $$ Ho
  ihave HZ := (show _ ⊢ (bigSep Finset.univ (postZ d) : sProp 𝕄) from Entails.of_eq (tens (postZ d)).symm) $$ [PZlo PZhi]
  · isplitl [PZlo]; · iexact PZlo
    iexact PZhi
  ihave HX := (show _ ⊢ (bigSep Finset.univ (postX d) : sProp 𝕄) from Entails.of_eq (tens (postX d)).symm) $$ [PXlo PXhi]
  · isplitl [PXlo]; · iexact PXlo
    iexact PXhi
  unfold postZ postX; simp only [bigSep_sep']
  icases HZ with ⟨Zzr, Coz⟩
  icases HX with ⟨Zxr, Cox⟩
  -- the fourth phase
  ihave HD := (Entails.of_eq (tens (fun c => An d (cut bo (ckD d c))))) $$ Od
  icases HD with ⟨Odlo, Odhi⟩
  iapply (wp_loopR m K d 5 (pD d) (preD d) (postD d) (fun _ => Ows d 0) (step_D m K d))
    $$ [Ho Afxr Cfxr Odlo Todx Afzr Cfzr Odhi Todz]
  · isplitr; · iexact HR
    isplitr [Ho]
    · unfold preD; simp only [bigSep_sep']
      isplitl [Afxr Cfxr Odlo Todx]
      · isplitl [Afxr]; · iexact Afxr
        isplitl [Cfxr]; · iexact Cfxr
        isplitl [Odlo]; · iexact Odlo
        iexact Todx
      isplitl [Afzr]; · iexact Afzr
      isplitl [Cfzr]; · iexact Cfzr
      isplitl [Odhi]; · iexact Odhi
      iexact Todz
    iexact Ho
  unfold postD; simp only [bigSep_sep']
  iintro ⟨⟨Zfxr, Zfzr, Codx, Codz⟩, Ho⟩
  -- the fifth phase
  iapply (wp_loopR m K d 10 (pE d) (preE d) (postE m d) (fun _ => Ows d 0) (step_E m K d))
    $$ [Ho Ays Cys Axs Cxs Azs Czs Aoo Coo Aoz Coz Aox Cox]
  · isplitr; · iexact HR
    isplitr [Ho]
    · unfold preE due; simp only [bigSep_sep']
      isplitl [Ays Cys]
      · isplitl [Ays]; · iexact Ays
        iexact Cys
      isplitl [Axs Cxs]
      · isplitl [Axs]; · iexact Axs
        iexact Cxs
      isplitl [Azs Czs]
      · isplitl [Azs]; · iexact Azs
        iexact Czs
      isplitl [Aoo Coo]
      · isplitl [Aoo]; · iexact Aoo
        iexact Coo
      isplitl [Aoz Coz]
      · isplitl [Aoz]; · iexact Aoz
        iexact Coz
      isplitl [Aox]; · iexact Aox
      iexact Cox
    iexact Ho
  unfold postE; simp only [bigSep_sep']
  iintro ⟨⟨⟨Zys, Zxs, Zzs, Zoo, Zoz, Zox⟩, Sbs, ⟨Sy1, Sy2, Sy3⟩, Szl, Sxl, Oo, Oz, Ox⟩, Ho⟩
  -- the last phase
  rw [show WP d (loop 5 (pF d)) Q = WP d (loop 5 (pF d) >>= fun a => .ret a) Q from congrArg (fun p => WP d p Q) (bind_pure (loop 5 (pF d))).symm]
  iapply (wp_loopR m K d 5 (pF d) (preF d) (postF m d) (fun _ => Ows d 0) (step_F m K d))
    $$ [Ho Afxs Cfxs Aodx Codx Afzs Cfzs Aodz Codz]
  · isplitr; · iexact HR
    isplitr [Ho]
    · unfold preF due; simp only [bigSep_sep']
      isplitl [Afxs Cfxs]
      · isplitl [Afxs]; · iexact Afxs
        iexact Cfxs
      isplitl [Aodx Codx]
      · isplitl [Aodx]; · iexact Aodx
        iexact Codx
      isplitl [Afzs Cfzs]
      · isplitl [Afzs]; · iexact Afzs
        iexact Cfzs
      isplitl [Aodz]; · iexact Aodz
      iexact Codz
    iexact Ho
  unfold postF; simp only [bigSep_sep']
  iintro ⟨⟨⟨Zfxs, Zodx, Zfzs, Zodz⟩, Szlo, Sxhi, Sdx, Sdz, Odlo, Odhi⟩, Ho⟩
  rw [WP_ret]; imodintro
  iapply Hk
  unfold finish scr inp out1
  rw [dma_eq]
  unfold fam lendY lendX lendZ
  isplitl [Ho]; · iexact Ho
  isplitl [Zbar]; · iexact Zbar
  isplitl [Z0 Z1 Zys Zyr Zxs Zxr Zzs Zzr Zfxs Zfxr Zfzs Zfzr Zoo Zox Zoz Zodx Zodz]
  · isplitl [Z0]; · iexact Z0
    isplitl [Z1]; · iexact Z1
    isplitl [Zys]; · iexact Zys
    isplitl [Zyr]; · iexact Zyr
    isplitl [Zxs]; · iexact Zxs
    isplitl [Zxr]; · iexact Zxr
    isplitl [Zzs]; · iexact Zzs
    isplitl [Zzr]; · iexact Zzr
    isplitl [Zfxs]; · iexact Zfxs
    isplitl [Zfxr]; · iexact Zfxr
    isplitl [Zfzs]; · iexact Zfzs
    isplitl [Zfzr]; · iexact Zfzr
    isplitl [Zoo]; · iexact Zoo
    isplitl [Zox]; · iexact Zox
    isplitl [Zoz]; · iexact Zoz
    isplitl [Zodx]; · iexact Zodx
    isplitl [Zodz]; · iexact Zodz
    iempintro
  isplitl [Bs Sbs Sy1 Sy2 Sy3 Szl Szlo Szhi Sxl Sxlo Sxhi Sdx Sdz Bf0 Bf1]
  · isplitl [Bs Sbs]
    · iapply (join2 d (fun c => cut bs (ck c)) (sV m d) Finset.univ)
      isplitl [Sbs]; · iexact Sbs
      iexact Bs
    isplitr [Bf0 Bf1]
    · isplitl [Sy1 Sy2 Sy3]
      · iapply (join3 d (fun c => cut by' (ck c)) (yV m d) Finset.univ)
        isplitl [Sy1]; · iexact Sy1
        isplitl [Sy2]; · iexact Sy2
        iexact Sy3
      isplitl [Sxl Sxlo Sxhi Sdx]
      · isplitr [Sdx]
        · iapply (Entails.of_eq (tens (fun c => An d (cut bxr (ck c)))).symm)
          ihave H := (Entails.of_eq (tens (fun c => ownsTc d (cut bxr (ck c)) qL (yV m (nx d) c)))) $$ Sxl
          icases H with ⟨Sxl, Sxl'⟩
          isplitl [Sxl Sxlo]
          · iapply (join2 d (fun j => cut bxr (ck (lo j))) (fun j => yV m (nx d) (lo j)) Finset.univ)
            isplitl [Sxl]; · iexact Sxl
            iexact Sxlo
          iapply (join2 d (fun j => cut bxr (ck (hi j))) (fun j => yV m (nx d) (hi j)) Finset.univ)
          isplitl [Sxl']; · iexact Sxl'
          iexact Sxhi
        iapply (forget d (fun j => cut bdx (ckLo j)) (fun j => yV m (nx (nz d)) (lo j)) Finset.univ); iexact Sdx
      isplitr [Sdz]
      · iapply (Entails.of_eq (tens (fun c => An d (cut bzr (ck c)))).symm)
        ihave H := (Entails.of_eq (tens (fun c => ownsTc d (cut bzr (ck c)) qL (yV m (nz d) c)))) $$ Szl
        icases H with ⟨Szl, Szl'⟩
        isplitl [Szl Szlo]
        · iapply (join2 d (fun j => cut bzr (ck (lo j))) (fun j => yV m (nz d) (lo j)) Finset.univ)
          isplitl [Szl]; · iexact Szl
          iexact Szlo
        iapply (join2 d (fun j => cut bzr (ck (hi j))) (fun j => yV m (nz d) (hi j)) Finset.univ)
        isplitl [Szl']; · iexact Szl'
        iexact Szhi
      iapply (forget d (fun j => cut bdz (ckHi j)) (fun j => yV m (nx (nz d)) (hi j)) Finset.univ); iexact Sdz
    isplitl [Bf0]; · iexact Bf0
    iexact Bf1
  isplitl [Hx]; · iexact Hx
  isplitl [Oo]; · iexact Oo
  isplitl [Oz]; · iexact Oz
  isplitl [Ox]; · iexact Ox
  iapply (Entails.of_eq (tens (fun c => ownsTc d (cut bo (ckD d c)) fullShare (yV m (nx (nz d)) c))).symm)
  isplitl [Odlo]; · iexact Odlo
  iexact Odhi

end Cert.KernelIdeal.Exch

end
-- ==== Proof.Whole.lean ====
/-
The buffers as a whole, before and after the run, and what the result holds.
-/
module

public import proofs.«01_k».proof.Proof.Run
public import Idealize.ShloMosaic.Lib.Pipeline.Value

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (d : Dev nD)

/-! ## What the result holds -/

/-- Device `e`'s input as a whole. -/
def inV (e : Dev nD) : Vec F (Rows 16384) .f32 := bx.view.read (Elt F) (m ((e : Thread nD τ).loc main_arg0))

/-- The sum over `y` at device `e`'s place along `x` and `z`: its neighbour's input plus its own, both cast. -/
def sumV (e : Dev nD) : FVec F (Rows 16384) .bf16 := addf (truncf .bf16 (inV m (ny e)) bitsLt_bf16_f32) (truncf .bf16 (inV m e) bitsLt_bf16_f32)

/-- The device at device `d`'s place along `y` that reduces quarter `q`. -/
def dq (q : ℕ) : Dev nD := ⟨4 * (q / 2 % 2) + 2 * (d.val / 2 % 2) + q % 2, by have : nD = 8 := rfl; omega⟩

/-- Device `d`'s result: the rows of quarter `q` are those of the sum as `dq d q` forms it. -/
def OUT : Vec F (Rows 16384) .bf16 := fun i => sumV m (dq d ((i 0).val / 4096)) i

theorem qr_ny : ∀ e : Dev nD, qr (ny e) = qr e := by decide
theorem dq_own4 : ∀ (d : Dev nD) (k : Fin 4), dq d (qr (own4 d k) / 4096) = own4 d k := by decide +kernel

theorem cQ_ny (e : Dev nD) (c : Fin 10) : cQ (ny e) c = cQ e c := by
  have h : (![qr (ny e) + ST c, 0] : Fin 2 → ℕ) 0 = qr e + ST c ∧ (![qr (ny e) + ST c, 0] : Fin 2 → ℕ) 1 = 0 :=
    ⟨congrArg (· + ST c) (qr_ny e), rfl⟩
  exact ckOf_eq _ e c h

/-- The part of a whole vector under chunk `c` of the quarter of `e`. -/
abbrev part {ε : EltTy} (X : (Rows 16384).Idx → Elt F ε) {n : ℕ} (b : Cut 16384 n) : (Rows n).Idx → Elt F ε := fun x => X (b.rect.emb x)

theorem xV_eq (e : Dev nD) (c : Fin 10) : xV m e c = part (inV m e) (cQ e c) := by
  rw [← ckOwn_eq]; rfl

theorem sV_eq (e : Dev nD) (c : Fin 10) : sV m e c = part (truncf .bf16 (inV m e) bitsLt_bf16_f32) (cQ e c) := by
  unfold sV castPay
  rw [xV_eq, shapeCast_self]
  rfl

theorem yV_eq (e : Dev nD) (c : Fin 10) : yV m e c = part (sumV m e) (cQ e c) := by
  unfold yV addPay
  rw [sV_eq, sV_eq, cQ_ny, shapeCast_self]
  rfl

theorem OUT_part (k : Fin 4) (c : Fin 10) : part (OUT m d) (cQ (own4 d k) c) = yV m (own4 d k) c := by
  rw [yV_eq]
  funext x
  have h : (((cQ (own4 d k) c).rect.emb x) 0).val / 4096 = qr (own4 d k) / 4096 := by
    have h0 : (((cQ (own4 d k) c).rect.emb x) 0).val = qr (own4 d k) + ST c + (x 0).val := by
      show qr (own4 d k) + ST c + 1 * (x 0).val = _
      rw [Nat.one_mul]
    have h1 : (x 0).val < SZ c := (x 0).isLt
    have h2 := ST_le c
    obtain ⟨q, hq⟩ : ∃ q, qr (own4 d k) = q * 4096 := ⟨_, rfl⟩
    rw [h0, hq]; omega
  show sumV m (dq d _) _ = _
  rw [h, dq_own4]

/-! ## Whole buffers -/

/-- The scratch buffers as the launch names them. -/
def scrW : sProp 𝕄 := iprop(An d bs ∗ An d by' ∗ An d bxr ∗ An d bzr ∗ An d bdx ∗ An d bdz ∗ An d bf)

theorem scr_eq : (Pipeline.scopedRest cfg0.spec d : sProp 𝕄) = scrW d := by
  rw [scopedRest0_eq]
  unfold scrW An
  simp only [ownsTc, owns_whole]
  rfl

theorem scr_in : scrW d ⊢ (scr d : sProp 𝕄) := by
  unfold scrW scr lendY lendX lendZ
  iintro ⟨H0, H1, H2, H3, H4, H5, H6⟩
  isplitl [H0]; · iapply (An_cuts d ck_tiled bs); iexact H0
  isplitl [H1 H2 H3 H4 H5]
  · isplitl [H1]; · iapply (An_cuts d ck_tiled by'); iexact H1
    isplitl [H2 H4]
    · isplitl [H2]; · iapply (An_cuts d ck_tiled bxr); iexact H2
      iapply (An_cuts d ckLo_tiled bdx); iexact H4
    · isplitl [H3]; · iapply (An_cuts d ck_tiled bzr); iexact H3
      iapply (An_cuts d ckHi_tiled bdz); iexact H5
  iapply (ent (An_cuts d reg_tiled bf) (Entails.of_eq (bigSep_two _))); iexact H6

theorem scr_out : scr d ⊢ (scrW d : sProp 𝕄) := by
  unfold scrW scr lendY lendX lendZ
  iintro ⟨H0, ⟨H1, ⟨H2, H4⟩, ⟨H3, H5⟩⟩, H6⟩
  isplitl [H0]; · iapply (cuts_An d ck_tiled bs); iexact H0
  isplitl [H1]; · iapply (cuts_An d ck_tiled by'); iexact H1
  isplitl [H2]; · iapply (cuts_An d ck_tiled bxr); iexact H2
  isplitl [H3]; · iapply (cuts_An d ck_tiled bzr); iexact H3
  isplitl [H4]; · iapply (cuts_An d ckLo_tiled bdx); iexact H4
  isplitl [H5]; · iapply (cuts_An d ckHi_tiled bdz); iexact H5
  iapply (ent (Entails.of_eq (bigSep_two (fun k : Fin 2 => An d (cut bf (reg k.val)))).symm) (cuts_An d reg_tiled bf)); iexact H6

omit [FloatOps F] in
/-- A buffer of 16384 rows is the chunks of its four quarters, -/
theorem whole_cuts {sp : Space} {e : EltTy} (M : Memref sig .tc sp (Rows 16384) e) (X : (Rows 16384).Idx → Elt F e) :
    ownsTc d M fullShare X ⊢ iprop((bigSep Finset.univ fun c => ownsTc d (cut M (cQ d c)) fullShare (part X (cQ d c)))
      ∗ (bigSep Finset.univ fun c => ownsTc d (cut M (cQ (nz d) c)) fullShare (part X (cQ (nz d) c)))
      ∗ (bigSep Finset.univ fun c => ownsTc d (cut M (cQ (nx d) c)) fullShare (part X (cQ (nx d) c)))
      ∗ (bigSep Finset.univ fun c => ownsTc d (cut M (cQ (nx (nz d)) c)) fullShare (part X (cQ (nx (nz d)) c))) : sProp 𝕄) :=
  ent (owns_cuts d (cQs_tiled d) M fullShare X) (Entails.of_eq (quarters d fun e c => ownsTc d (cut M (cQ e c)) fullShare (part X (cQ e c))))

/-- and again the buffer. -/
theorem cuts_whole {sp : Space} {e : EltTy} (M : Memref sig .tc sp (Rows 16384) e) (X : (Rows 16384).Idx → Elt F e) :
    iprop((bigSep Finset.univ fun c => ownsTc d (cut M (cQ d c)) fullShare (part X (cQ d c)))
      ∗ (bigSep Finset.univ fun c => ownsTc d (cut M (cQ (nz d) c)) fullShare (part X (cQ (nz d) c)))
      ∗ (bigSep Finset.univ fun c => ownsTc d (cut M (cQ (nx d) c)) fullShare (part X (cQ (nx d) c)))
      ∗ (bigSep Finset.univ fun c => ownsTc d (cut M (cQ (nx (nz d)) c)) fullShare (part X (cQ (nx (nz d)) c)))) ⊢ (ownsTc d M fullShare X : sProp 𝕄) :=
  ent (Entails.of_eq (quarters d fun e c => ownsTc d (cut M (cQ e c)) fullShare (part X (cQ e c))).symm) (cuts_owns d (cQs_tiled d) M fullShare X)

/-- The rows of the input that the run leaves alone. -/
def inRest : sProp 𝕄 :=
  iprop((bigSep Finset.univ fun c => ownsTc d (cut bx (cQ (nz d) c)) fullShare (part (inV m d) (cQ (nz d) c)))
    ∗ (bigSep Finset.univ fun c => ownsTc d (cut bx (cQ (nx d) c)) fullShare (part (inV m d) (cQ (nx d) c)))
    ∗ (bigSep Finset.univ fun c => ownsTc d (cut bx (cQ (nx (nz d)) c)) fullShare (part (inV m d) (cQ (nx (nz d)) c))))

theorem inp_eq : inp m d = (bigSep Finset.univ fun c => ownsTc d (cut bx (cQ d c)) fullShare (part (inV m d) (cQ d c)) : sProp 𝕄) := by
  unfold inp
  simp only [xV_eq, ckOwn_eq]

theorem in_cut : ((d : Thread nD τ).loc main_arg0 ↦{fullShare} m ((d : Thread nD τ).loc main_arg0)) ⊢ (iprop(inp m d ∗ inRest m d) : sProp 𝕄) := by
  rw [inp_eq]
  unfold inRest
  exact ent (Entails.of_eq (owns_whole (d : Thread nD τ) main_arg0 fullShare _).symm) (whole_cuts d bx (inV m d))

theorem in_join : iprop(inp m d ∗ inRest m d) ⊢ ((d : Thread nD τ).loc main_arg0 ↦{fullShare} m ((d : Thread nD τ).loc main_arg0) : sProp 𝕄) := by
  rw [inp_eq]
  unfold inRest
  exact ent (cuts_whole d bx (inV m d)) (Entails.of_eq (owns_whole (d : Thread nD τ) main_arg0 fullShare _))

theorem out_cut (f : Buf (Elt F) ((d : Thread nD τ).loc main_v1)) : ((d : Thread nD τ).loc main_v1 ↦{fullShare} f) ⊢ (out0 d : sProp 𝕄) := by
  unfold out0
  simp only [ckOwn_eq, ckZ_eq, ckX_eq, ckD_eq]
  refine ent (Entails.of_eq (owns_whole (d : Thread nD τ) main_v1 fullShare f).symm) (ent (whole_cuts d bo f) ?_)
  iintro ⟨H0, H1, H2, H3⟩
  isplitl [H0]; · iapply (forget d (fun c => cut bo (cQ d c)) _ Finset.univ); iexact H0
  isplitl [H1]; · iapply (forget d (fun c => cut bo (cQ (nz d) c)) _ Finset.univ); iexact H1
  isplitl [H2]; · iapply (forget d (fun c => cut bo (cQ (nx d) c)) _ Finset.univ); iexact H2
  iapply (forget d (fun c => cut bo (cQ (nx (nz d)) c)) _ Finset.univ); iexact H3

theorem out_join : out1 m d ⊢ ((d : Thread nD τ).loc main_v1 ↦{fullShare} (OUT m d : Buf (Elt F) ((d : Thread nD τ).loc main_v1)) : sProp 𝕄) := by
  unfold out1
  simp only [ckOwn_eq, ckZ_eq, ckX_eq, ckD_eq]
  have h0 := fun c => OUT_part m d 0 c
  have h1 := fun c => OUT_part m d 1 c
  have h2 := fun c => OUT_part m d 2 c
  have h3 := fun c => OUT_part m d 3 c
  simp only [own4] at h0 h1 h2 h3
  simp only [← h0, ← h1, ← h2, ← h3]
  exact ent (cuts_whole d bo (OUT m d)) (Entails.of_eq (owns_whole (d : Thread nD τ) main_v1 fullShare _))

end Cert.KernelIdeal.Exch

end
-- ==== Proof.Deal.lean ====
/-
The launch's ghost state: every cell's invariant, each token at the device that uses it, each credit at the device that waits.
-/
module

public import proofs.«01_k».proof.Proof.Whole

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (d : Dev nD)

/-! ## All semaphores of a device -/

omit [FloatOps F] in
theorem sems_eq (Φ : SemLoc sig → sProp 𝕄) : bigSep Finset.univ Φ = iprop(Φ (.reg barS) ∗ bigSep Finset.univ fun i : DmaSem sig => Φ (.dma i)) := by
  rw [bigSep_univ_equiv (SemLoc.equivSum sig).symm Φ, bigSep_univ_sum,
    bigSep_univ_eq_bigSepL [barS] (by decide) (by decide) fun a : Sem sig => Φ ((SemLoc.equivSum sig).symm (.inl a))]
  rfl

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-! ## The ghost state of the cells -/

theorem gc_inj : Function.Injective (gc : Dev nD × SemLoc sig → GSem nD τ sig) := fun p p' h =>
  Prod.ext (congrArg (fun g : GSem nD τ sig => g.1.1) h) (congrArg (fun g : GSem nD τ sig => g.2) h)

/-- All cells. -/
def cells : Finset (GSem nD τ sig) := Finset.univ.map ⟨gc, gc_inj⟩

/-- A token of each cell for each of five rounds and of three duties; those that no round has are never used. -/
abbrev tokAt (x : (Dev nD × SemLoc sig) × Fin 5 × Fin 3) : GSem nD τ sig × ℕ × Fin 3 := (gc x.1, x.2.1.val, x.2.2)

theorem tokAt_inj : Function.Injective tokAt := fun x x' h =>
  Prod.ext (gc_inj (congrArg Prod.fst h)) (Prod.ext (Fin.ext (congrArg (fun y : GSem nD τ sig × ℕ × Fin 3 => y.2.1) h))
    (congrArg (fun y : GSem nD τ sig × ℕ × Fin 3 => y.2.2) h))

def tokens : Finset (GSem nD τ sig × ℕ × Fin 3) := Finset.univ.map ⟨tokAt, tokAt_inj⟩

/-- What the launch deals: the windows' share, of which there is none, and the cells'. -/
def u₀ : UU := (initOf (Pipeline.cells cfgs cellOf_inj) (Pipeline.launchToks cfgs cellOf_inj), initOf cells tokens)

/-- The tokens of a cell. -/
def tokS (s : SemLoc sig) : sProp 𝕄 := bigSep Finset.univ fun rk : Fin 5 × Fin 3 => dutyTok ER (gc (d, s)) rk.1.val rk.2

/-- What is dealt to a device, -/
def G : sProp 𝕄 :=
  iprop((bigSep Finset.univ fun s => roundState ER (Rd m) (gc (d, s)) 0)
    ∗ (bigSep Finset.univ fun s => iprop(atPos ER (gc (d, s)) 0 ∅ 0 ∗ reached ER (gc (d, s)) 0)) ∗ bigSep Finset.univ fun s => tokS d s)

/-- the facts that all devices share, -/
def recs : sProp 𝕄 :=
  iprop((bigSep Finset.univ fun p => cellInv ER (Rd m) (K p) (gc p)) ∗ bigSep Finset.univ fun p => reached ER (gc p) 0)

instance recs_persistent : BI.Persistent (recs m K) := by unfold recs; infer_instance

/-- and what it has once the cells' invariants stand. -/
def G' : sProp 𝕄 := iprop(∃ K, recs m K ∗ posn d ∗ pays d)

theorem fund_cells : BI.own (ER (initOf cells tokens)) ⊢ (|==> bigSep Finset.univ (G m) : sProp 𝕄) := by
  have hX (Φ : GSem nD τ sig → sProp 𝕄) : bigSep cells Φ = bigSep Finset.univ fun d : Dev nD => bigSep Finset.univ fun s : SemLoc sig => Φ (gc (d, s)) := by
    unfold cells; rw [bigSep_map, bigSep_univ_prod]; rfl
  have hT : bigSep tokens (fun x => (dutyTok ER x.1 x.2.1 x.2.2 : sProp 𝕄))
      = bigSep Finset.univ fun d : Dev nD => bigSep Finset.univ fun s : SemLoc sig => tokS d s := by
    unfold tokens; rw [bigSep_map, bigSep_univ_prod, bigSep_univ_prod]; rfl
  iintro HX
  imod (Rounds.fund ER (Rd m) cells tokens) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The tokens dealt to those who pay -/

omit [FloatOps F] in
/-- A cell's token of round `r` and duty `k`. -/
theorem tok_at (s : SemLoc sig) (r : Fin 5) (k : Fin 3) : tokS d s ⊢ (dutyTok ER (gc (d, s)) r.val k : sProp 𝕄) :=
  bigSep_elim (Φ := fun rk : Fin 5 × Fin 3 => dutyTok ER (gc (d, s)) rk.1.val rk.2) (Finset.mem_univ (r, k))

omit [FloatOps F] in
theorem tok_bar : tokS d (.reg barS) ⊢ (iprop(dutyTok ER (bar d) 0 0 ∗ dutyTok ER (bar d) 0 1 ∗ dutyTok ER (bar d) 0 2) : sProp 𝕄) := by
  unfold tokS
  rw [bigSep_univ_prod]
  exact ent (bigSep_elim (Finset.mem_univ (0 : Fin 5))) (Entails.of_eq (bigSep_three _))

omit [FloatOps F] in
/-- The five rounds' tokens of a cell of the input's copies. -/
theorem tok_five (s : SemLoc sig) : tokS d s ⊢ (bigSep Finset.univ fun r : Fin 5 => dutyTok ER (gc (d, s)) r.val 0 : sProp 𝕄) := by
  unfold tokS
  rw [bigSep_univ_prod]
  exact bigSep_mono fun r _ => bigSep_elim (Φ := fun k : Fin 3 => dutyTok ER (gc (d, s)) r.val k) (Finset.mem_univ (0 : Fin 3))

omit [FloatOps F] in
theorem tok_ld : iprop(tokS d (.dma (ldI 0)) ∗ tokS d (.dma (ldI 1)))
    ⊢ (bigSep Finset.univ fun c : Fin 10 => dutyTok ER (cel d (iLd c)) (c.val / 2) 0 : sProp 𝕄) := by
  have hval : ∀ (r : Fin 5) (k : Fin 2), (finProdFinEquiv (r, k) : Fin (5 * 2)).val = k.val + 2 * r.val := fun r k => rfl
  have hk (k : Fin 2) (r : Fin 5) : (dutyTok ER (cel d (iLd (finProdFinEquiv (r, k) : Fin (5 * 2)))) ((finProdFinEquiv (r, k) : Fin (5 * 2)).val / 2) 0 : sProp 𝕄)
      = dutyTok ER (cel d (ldI k.val)) r.val 0 := by
    have h1 : iLd (finProdFinEquiv (r, k) : Fin (5 * 2)) = ldI k.val := Fin.ext (by
      show (finProdFinEquiv (r, k) : Fin (5 * 2)).val % 2 = k.val % 2
      rw [hval]; omega)
    have h2 : (finProdFinEquiv (r, k) : Fin (5 * 2)).val / 2 = r.val := by rw [hval]; omega
    rw [h1, h2]
  rw [bigSep_univ_equiv (finProdFinEquiv (m := 5) (n := 2)), bigSep_univ_prod]
  simp only [hk, bigSep_two, bigSep_sep']
  iintro ⟨H0, H1⟩
  isplitl [H0]; · iapply (tok_five d (.dma (ldI 0))); iexact H0
  iapply (tok_five d (.dma (ldI 1))); iexact H1

/-- The tokens of a device's own cells that are of use. -/
def own : sProp 𝕄 :=
  iprop((dutyTok ER (bar d) 0 0 ∗ dutyTok ER (bar d) 0 1 ∗ dutyTok ER (bar d) 0 2)
    ∗ (bigSep Finset.univ fun c : Fin 10 => dutyTok ER (cel d (iLd c)) (c.val / 2) 0) ∗ fam fun i => dutyTok ER (cel d i) 0 0)

omit [FloatOps F] in
theorem fam_mono {Φ Ψ : DmaSem sig → sProp 𝕄} (h : ∀ i, Φ i ⊢ Ψ i) : fam Φ ⊢ fam Ψ := by
  rw [← fam_eq, ← fam_eq]
  exact bigSep_mono fun i _ => h i

omit [FloatOps F] in
theorem own_of : (bigSep Finset.univ fun s => tokS d s) ⊢ (own d : sProp 𝕄) := by
  rw [sems_eq, dma_eq]
  unfold own
  iintro ⟨Hb, H0, H1, Hf⟩
  isplitl [Hb]; · iapply (tok_bar d); iexact Hb
  isplitl [H0 H1]
  · iapply (tok_ld d)
    isplitl [H0]; · iexact H0
    iexact H1
  iapply (fam_mono fun i => tok_at d (.dma i) 0 0); iexact Hf

/-- The neighbours, as permutations of the devices. -/
def px : Dev nD ≃ Dev nD := ⟨nx, nx, nx_nx, nx_nx⟩
def py : Dev nD ≃ Dev nD := ⟨ny, ny, ny_ny, ny_ny⟩
def pz : Dev nD ≃ Dev nD := ⟨nz, nz, nz_nz, nz_nz⟩

omit [FloatOps F] in
theorem around (e : Dev nD ≃ Dev nD) (Φ : Dev nD → sProp 𝕄) : bigSep Finset.univ Φ ⊢ bigSep Finset.univ fun d => Φ (e d) :=
  Entails.of_eq (bigSep_univ_equiv e Φ)

omit [FloatOps F] in
theorem deal : (bigSep Finset.univ fun d => (own d : sProp 𝕄)) ⊢ bigSep Finset.univ fun d => pays d := by
  unfold own pays fam
  simp only [bigSep_sep']
  iintro ⟨⟨B0, B1, B2⟩, L, Ys, Yr, Xs, Xr, Zs, Zr, Fxs, Fxr, Fzs, Fzr, Oo, Ox, Oz, Odx, Odz, -⟩
  isplitl [B0 B1 B2]
  · isplitl [B0]; · iapply (around py fun d => dutyTok ER (bar d) 0 0); iexact B0
    isplitl [B1]; · iapply (around px fun d => dutyTok ER (bar d) 0 1); iexact B1
    iapply (around pz fun d => dutyTok ER (bar d) 0 2); iexact B2
  isplitl [L]; · iexact L
  isplitl [Ys]; · iexact Ys
  isplitl [Yr]; · iapply (around py fun d => bigSep Finset.univ fun c : Fin 10 => dutyTok ER (cel d (iYr c)) 0 0); iexact Yr
  isplitl [Xs]; · iexact Xs
  isplitl [Xr]; · iapply (around px fun d => bigSep Finset.univ fun c : Fin 10 => dutyTok ER (cel d (iXr c)) 0 0); iexact Xr
  isplitl [Zs]; · iexact Zs
  isplitl [Zr]; · iapply (around pz fun d => bigSep Finset.univ fun c : Fin 10 => dutyTok ER (cel d (iZr c)) 0 0); iexact Zr
  isplitl [Fxs]; · iexact Fxs
  isplitl [Fxr]; · iapply (around px fun d => bigSep Finset.univ fun j : Fin 5 => dutyTok ER (cel d (iFxr j)) 0 0); iexact Fxr
  isplitl [Fzs]; · iexact Fzs
  isplitl [Fzr]; · iapply (around pz fun d => bigSep Finset.univ fun j : Fin 5 => dutyTok ER (cel d (iFzr j)) 0 0); iexact Fzr
  isplitl [Oo]; · iexact Oo
  isplitl [Ox]; · iexact Ox
  isplitl [Oz]; · iexact Oz
  isplitl [Odx]; · iexact Odx
  iexact Odz

/-! ## The invariants -/

/-- The DMA semaphores are the kernel's own; -/
abbrev osem : DmaSem sig → SemLoc sig := fun i => .dma i

omit [FloatOps F] in
/-- the barrier semaphore is the one besides. -/
theorem unscoped_eq : (unscopedSems0 d : sProp 𝕄) = semVal (bar d) 0 := by
  unfold unscopedSems0; rw [bigSep_eq_bigSepL_of_eq [SemLoc.reg barS] (by decide +kernel) (by decide)]; rfl

omit [FloatOps F] in
theorem zeros : iprop(Pipeline.ownSems0 osem d ∗ unscopedSems0 d) ⊢ (bigSep Finset.univ fun s : SemLoc sig => semVal (gc (d, s)) 0 : sProp 𝕄) := by
  rw [unscoped_eq, sems_eq]
  unfold Pipeline.ownSems0
  iintro ⟨H, Hb⟩
  isplitl [Hb]; · iexact Hb
  iexact H

theorem stand : iprop(Pipeline.ownSems0 osem d ∗ unscopedSems0 d ∗ G m d)
    ⊢ (|={Set.univ}=> iprop((bigSep Finset.univ fun s => iprop(∃ κ : ℕ, cellInv ER (Rd m) κ (gc (d, s))))
        ∗ ((bigSep Finset.univ fun s => atPos ER (gc (d, s)) 0 ∅ 0) ∗ bigSep Finset.univ fun s => reached ER (gc (d, s)) 0) ∗ own d) : sProp 𝕄) := by
  unfold G
  rw [bigSep_sep']
  iintro ⟨Hos, Hus, Hst, Hat, Htok⟩
  ihave Hv := (zeros (F := F) d) $$ [Hos Hus]
  · isplitl [Hos]; · iexact Hos
    iexact Hus
  imod (show iprop((bigSep Finset.univ fun s : SemLoc sig => semVal (gc (d, s)) 0) ∗ bigSep Finset.univ fun s : SemLoc sig => roundState ER (Rd m) (gc (d, s)) 0)
      ⊢ (|={Set.univ}=> bigSep Finset.univ fun s => iprop(∃ κ : ℕ, cellInv ER (Rd m) κ (gc (d, s))) : sProp 𝕄) from by
        rw [← bigSep_sep']
        exact (bigSep_mono fun s _ => (Rounds.body_intro ER (Rd m) (gc (d, s))).trans inv_alloc).trans (bigSep_fupd _ _)) $$ [Hv Hst] with Hinv
  · isplitl [Hv]; · iexact Hv
    iexact Hst
  imodintro
  isplitl [Hinv]; · iexact Hinv
  isplitl [Hat]; · iexact Hat
  iapply (own_of d); iexact Htok

omit [FloatOps F] in
theorem posn_eq : (posn d : sProp 𝕄) = bigSep Finset.univ fun s : SemLoc sig => atPos ER (gc (d, s)) 0 ∅ 0 := by
  rw [sems_eq]; rfl

omit [FloatOps F] in
theorem with_all {R : sProp 𝕄} [BI.Persistent R] {Φ Ψ : Dev nD → sProp 𝕄} (h : ∀ d, iprop(R ∗ Φ d) ⊢ Ψ d) :
    iprop(R ∗ bigSep Finset.univ Φ) ⊢ bigSep Finset.univ Ψ :=
  (sep_mono_left (BI.bigSep_of_persistent Finset.univ R)).trans (by rw [← bigSep_sep']; exact bigSep_mono fun d _ => h d)

theorem regroup :
    (bigSep Finset.univ fun d : Dev nD => iprop((bigSep Finset.univ fun s => iprop(∃ κ : ℕ, cellInv ER (Rd m) κ (gc (d, s))))
        ∗ ((bigSep Finset.univ fun s => atPos ER (gc (d, s)) 0 ∅ 0) ∗ bigSep Finset.univ fun s => reached ER (gc (d, s)) 0) ∗ own d) : sProp 𝕄)
      ⊢ bigSep Finset.univ (G' m) := by
  rw [bigSep_sep', bigSep_sep', bigSep_sep', ← bigSep_univ_prod (fun p : Dev nD × SemLoc sig => iprop(∃ κ : ℕ, cellInv ER (Rd m) κ (gc p))),
    ← bigSep_univ_prod (fun p : Dev nD × SemLoc sig => (reached ER (gc p) 0 : sProp 𝕄))]
  iintro ⟨HI, ⟨Hat, #HR⟩, Htok⟩
  ihave HK := (BI.bigSep_exists_pi Finset.univ (fun (p : Dev nD × SemLoc sig) (κ : ℕ) => (cellInv ER (Rd m) κ (gc p) : sProp 𝕄))) $$ HI
  icases HK with ⟨%K, #HI⟩
  ihave Htk := (deal (F := F)) $$ Htok
  iapply (with_all (R := recs m K) (Φ := fun d => iprop(posn d ∗ pays d)) fun d => show iprop(recs m K ∗ posn d ∗ pays d) ⊢ G' m d from by
    unfold G'; iintro H; iexists K; iexact H)
  isplitr
  · unfold recs
    isplitl; · iexact HI
    iexact HR
  · simp only [posn_eq]
    rw [bigSep_sep']
    isplitl [Hat]; · iexact Hat
    iexact Htk

theorem glob : (bigSep Finset.univ fun d => iprop(Pipeline.ownSems0 osem d ∗ unscopedSems0 d ∗ G m d) : sProp 𝕄)
    ⊢ |={Set.univ}=> bigSep Finset.univ (G' m) :=
  ((bigSep_mono fun d _ => stand m d).trans (bigSep_fupd _ _)).trans (BI.fupd_mono (regroup m))

/-! ## The credits -/

/-- What the neighbours together owe a cell of a device. -/
def dues (s : SemLoc sig) : ℕ :=
  (∑ j : Fin 5, if s = .dma (iFzr j) then nb (hi j) else 0) + (∑ j : Fin 5, if s = .dma (iFxr j) then nb (lo j) else 0)
    + (∑ c : Fin 10, ((if s = .dma (iZr c) then nb c else 0) + (if s = .dma (iXr c) then nb c else 0)))
    + (∑ c : Fin 10, if s = .dma (iYr c) then nb c else 0)
    + (if s = .reg barS then 1 else 0) + (if s = .reg barS then 1 else 0) + (if s = .reg barS then 1 else 0)

theorem dues_bar : dues (.reg barS) = 3 := by decide +kernel
theorem dues_yr : ∀ c, dues (.dma (iYr c)) = nb c := by decide +kernel
theorem dues_xr : ∀ c, dues (.dma (iXr c)) = nb c := by decide +kernel
theorem dues_zr : ∀ c, dues (.dma (iZr c)) = nb c := by decide +kernel
theorem dues_fxr : ∀ j, dues (.dma (iFxr j)) = nb (lo j) := by decide +kernel
theorem dues_fzr : ∀ j, dues (.dma (iFzr j)) = nb (hi j) := by decide +kernel

/-- What one device owes a cell of its neighbour, summed over the devices. -/
theorem owed_one (e : Dev nD ≃ Dev nD) (s s' : SemLoc sig) (k : ℕ) :
    (∑ c : Dev nD, (tallyAt (gc (e c, s')) () k : CellTallies nD τ sig Unit) (gc (d, s)) ()) = if s = s' then k else 0 := by
  rw [Equiv.sum_comp e fun c => (tallyAt (gc (c, s')) () k : CellTallies nD τ sig Unit) (gc (d, s)) ()]
  rw [Finset.sum_eq_single d]
  · rw [tallyAt_apply]
    by_cases h : s = s'
    · subst h; rw [if_pos ⟨rfl, rfl⟩, if_pos rfl]
    · rw [if_neg h, if_neg fun h' => h (congrArg Prod.snd h'.1)]
  · intro c _ hc
    rw [tallyAt_ne_cell fun h => hc (congrArg Prod.fst (gc_inj h)).symm]; rfl
  · intro h; exact absurd (Finset.mem_univ _) h

theorem owed_fam {n : ℕ} (e : Dev nD ≃ Dev nD) (s : SemLoc sig) (i : Fin n → DmaSem sig) (k : Fin n → ℕ) :
    (∑ c : Dev nD, ∑ j, (tallyAt (gc (e c, .dma (i j))) () (k j) : CellTallies nD τ sig Unit) (gc (d, s)) ())
      = ∑ j, if s = .dma (i j) then k j else 0 := by
  rw [Finset.sum_comm]
  exact Finset.sum_congr rfl fun j _ => owed_one d e s (.dma (i j)) (k j)

theorem tl_at {n : ℕ} (f : Fin n → CellTallies nD τ sig Unit) (g : GSem nD τ sig) : tl f 0 g () = ∑ j, f j g () := by
  rw [tl_zero, Finset.sum_apply, Finsupp.finset_sum_apply]

theorem owed_all (s : SemLoc sig) : (∑ c : Dev nD, oStart c (gc (d, s)) ()) = dues s := by
  unfold oStart oA oB oLo oHi dues
  simp only [Pi.add_apply, Finsupp.add_apply, tl_at, Finset.sum_add_distrib]
  exact congrArg₂ _ (congrArg₂ _ (congrArg₂ _ (congrArg₂ _ (congrArg₂ _ (congrArg₂ _
      (owed_fam d pz s iFzr fun j => nb (hi j))
      (owed_fam d px s iFxr fun j => nb (lo j)))
      (congrArg₂ _ (owed_fam d pz s iZr nb) (owed_fam d px s iXr nb)))
      (owed_fam d py s iYr nb))
      (owed_one d pz s (.reg barS) 1)) (owed_one d px s (.reg barS) 1)) (owed_one d py s (.reg barS) 1)

theorem credit_at (s : SemLoc sig) :
    tallyOn (gc (d, s)) (launchCredit (Pipeline.owing oStart) 0 (gc (d, s))) = (tallyAt (gc (d, s)) () (dues s) : CellTallies nD τ sig Unit) := by
  unfold tallyAt; refine congrArg _ (Finsupp.ext fun u => ?_); cases u
  rw [Pipeline.launchCredit_owing, Finsupp.single_eq_same]
  exact owed_all d s

omit [FloatOps F] in
theorem credits : (Pipeline.launchCred oStart d : sProp 𝕄) ⊢ crds d := by
  unfold Pipeline.launchCred crds
  have h : (fun s : SemLoc sig => (cred (tallyOn (gc (d, s)) (launchCredit (Pipeline.owing oStart) 0 (gc (d, s)))) : sProp 𝕄))
      = fun s => cred (tallyAt (gc (d, s)) () (dues s)) := funext fun s => by rw [credit_at]
  rw [show (fun s : SemLoc sig => (cred (tallyOn ((d : Thread nD τ), s) (launchCredit (Pipeline.owing oStart) 0 ((d : Thread nD τ), s))) : sProp 𝕄)) = _ from h]
  rw [sems_eq, dma_eq]
  unfold fam
  simp only [dues_bar, dues_yr, dues_xr, dues_zr, dues_fxr, dues_fzr]
  iintro ⟨B, -, -, -, Yr, -, Xr, -, Zr, -, Fxr, -, Fzr, -⟩
  isplitl [B]; · iexact B
  isplitl [Yr]; · iexact Yr
  isplitl [Xr]; · iexact Xr
  isplitl [Zr]; · iexact Zr
  isplitl [Fxr]; · iexact Fxr
  iexact Fzr

end Cert.KernelIdeal.Exch

end
-- ==== Proof.Main.lean ====
/-
The launch, and the run of the whole program on all devices.
-/
module

public import proofs.«01_k».proof.Proof.Deal
public import Idealize.ShloMosaic.Lib.Pipeline.Kit
public import Idealize.ShloMosaic.Lib.Quiescent
public import Idealize.ShloMosaic.Lib.Pipeline.CollectiveSegs

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (K : Dev nD × SemLoc sig → ℕ) (d : Dev nD)

/-! ## Before and after the kernel's one point -/

/-- What a device brings to its kernel, besides the scratch buffers, -/
def ante : sProp 𝕄 := iprop((∃ K, recs m K ∗ posn d ∗ pays d) ∗ crds d ∗ levAts L lv ∗ inp m d ∗ out0 d)

/-- what it has in the kernel before its body's run, and after. -/
def before : sProp 𝕄 := iprop(ante m d ∗ scr d)
def after : sProp 𝕄 := iprop(semVal (bar d) 0 ∗ (bigSep Finset.univ fun i : DmaSem sig => semVal (cel d i) 0) ∗ scr d ∗ inp m d ∗ out1 m d)

def dats (_ : Fin 1) (d : Dev nD) : Dat τ (Elt F) Unit ℕ UU ℕ cfg0 d where
  A w := m ((cfg0.win w).arr.view.loc (d : Thread nD τ))
  after w _ := w.elim0
  Φ t := match t with
    | ⟨0, _⟩ => before m d
    | ⟨_ + 1, _⟩ => after m d
  q _ := fullShare
  owed t := match t with
    | ⟨0, _⟩ => oStart d
    | ⟨_ + 1, _⟩ => 0

theorem Rec_of : iprop(recs m K ∗ levAts L lv) ⊢ Rec m K := by
  unfold recs Rec
  iintro ⟨⟨H1, H2⟩, H3⟩
  isplitl [H1]; · iexact H1
  isplitl [H2]; · iexact H2
  iexact H3

/-- The body's run, as the launch wants it. -/
theorem run_point (B : Set (SemLoc sig × Unit)) (Q : PUnit → sProp 𝕄)
    (hQ : iprop(after m d ∗ Ows d 0) ⊢ Q ⟨⟩) :
    iprop(before m d ∗ Pipeline.owesWithin d (oStart d) B) ⊢ WP d body Q := by
  unfold before ante
  iintro ⟨⟨⟨⟨%K, #HR, Hp, Ht⟩, Hc, #HL, Hi, Ho⟩, Hs⟩, ⟨%W, -, Hw⟩⟩
  iapply (run_body m K d Q) $$ [Hp Ht Hc Hi Ho Hs Hw]
  · isplitr
    · iapply (Rec_of m K)
      isplitr; · iexact HR
      iexact HL
    unfold start
    isplitl [Hw]; · unfold Ows; iexists W; iexact Hw
    isplitl [Hp]; · iexact Hp
    isplitl [Ht]; · iexact Ht
    isplitl [Hc]; · iexact Hc
    isplitl [Hs]; · iexact Hs
    isplitl [Hi]; · iexact Hi
    iexact Ho
  unfold finish
  iintro ⟨Hw, H⟩
  iapply hQ
  isplitl [H]; · unfold after; iexact H
  iexact Hw

set_option maxRecDepth 20000 in
theorem body_obligation : BodyObligation (dats m 0 d) (defs₀ (F := F)) 𝒱₀ () Set.univ := fun t => by
  rw [fin_N0 t]
  have hemp (Φ : Fin cfg0.W → sProp 𝕄) : bigSep Finset.univ Φ = BI.emp := by
    rw [show (Finset.univ : Finset (Fin cfg0.W)) = ∅ from rfl]; exact bigSep_empty
  rw [hemp, hemp]
  show iprop(before m d ∗ Pipeline.owesWithin d (oStart d) ((dats m 0 d).bound () t0_0.castSucc) ∗ emp)
    ⊢ WP d (cc0_body (F := F) (Memref.whole main_arg0) (Memref.isWhole_whole _) (Memref.whole main_v1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) cc0_scratch7 cc0_scratch8 cc0_scratch9 cc0_scratch10 cc0_scratch11
      cc0_scratch12 cc0_scratch13 cc0_scratch14 cc0_scratch15 cc0_scratch16 cc0_scratch17 cc0_scratch18 cc0_scratch19 cc0_scratch20
      cc0_scratch21 cc0_scratch22)
      (fun _ => iprop(after m d ∗ Pipeline.owesWithin d 0 ((dats m 0 d).bound () t0_0.succ) ∗ emp))
  rw [body_eq, sep_emp_eq]
  refine run_point m d ((dats m 0 d).bound () t0_0.castSucc) (fun _ => iprop(after m d ∗ Pipeline.owesWithin d 0 ((dats m 0 d).bound () t0_0.succ) ∗ emp)) ?_
  show iprop(after m d ∗ Ows d 0) ⊢ iprop(after m d ∗ Pipeline.owesWithin d 0 ((dats m 0 d).bound () t0_0.succ) ∗ emp)
  unfold Ows
  iintro ⟨H, %W, Ho⟩
  isplitl [H]; · iexact H
  rw [sep_emp_eq]
  iexists W
  isplitr; · ipureintro; exact fun _ _ => Or.inl trivial
  iexact Ho

/-! ## The launch -/

theorem ownSemFacts : Pipeline.OwnSemFacts cfg0.spec osem where
  isScoped := by decide +kernel
  inj := fun i j h => SemLoc.dma.inj h
  disj := fun i w => w.elim0

theorem L_of_ne (g : GSem nD τ sig) (h : g.1.2 ≠ .tc) : L g = ∅ := if_neg h

theorem enter {ρ : PrngReg} :
    iprop(Pipeline.unscopedRestP Pipeline.Prefetch.none cfg0.spec d (fun b => m ((d : Thread nD τ).loc b)) ∗ levAts L lv
        ∗ Pipeline.launchCred oStart d ∗ prngReg d ρ ∗ G' m d)
      ⊢ (|={Set.univ}=> iprop(ante m d ∗ inRest m d) : sProp 𝕄) := by
  rw [Pipeline.unscopedRestP_none, unscopedRest0_eq]
  iintro ⟨⟨Hx, Hy⟩, Hlev, Hcr, -, HG⟩
  imodintro
  ihave Hx := (in_cut m d) $$ Hx
  icases Hx with ⟨Hx, Hr⟩
  isplitr [Hr]
  · unfold ante G'
    isplitl [HG]; · iexact HG
    isplitl [Hcr]; · iapply (credits (F := F) d); iexact Hcr
    isplitl [Hlev]; · iexact Hlev
    isplitl [Hx]; · iexact Hx
    iapply (out_cut d _); iexact Hy
  · iexact Hr

theorem enter_point :
    iprop(ante m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = before m d from rfl, scr_eq]
  unfold before
  iintro ⟨H, -, Hs⟩
  isplitl [H]; · iexact H
  iapply (scr_in d); iexact Hs

theorem leave_point :
    (dats m 0 d).Φ (Fin.last cfg0.N) ⊢ iprop((semVal (bar d) 0 ∗ inp m d ∗ out1 m d) ∗ Pipeline.ownSems0 osem d ∗ Pipeline.scopedRest cfg0.spec d) := by
  rw [show (dats m 0 d).Φ (Fin.last cfg0.N) = after m d from rfl, scr_eq]
  unfold after Pipeline.ownSems0
  iintro ⟨Hb, Hz, Hs, Hi, Ho⟩
  isplitl [Hb Hi Ho]
  · isplitl [Hb]; · iexact Hb
    isplitl [Hi]; · iexact Hi
    iexact Ho
  isplitl [Hz]; · iexact Hz
  iapply (scr_out d); iexact Hs

/-- What the final memory says at device `d`. -/
def Final (s : MemSt nD τ sig (Elt F)) : Prop :=
  (s.mem ((d : Thread nD τ).loc main_arg0) = m ((d : Thread nD τ).loc main_arg0) ∧ s.mem ((d : Thread nD τ).loc main_v1) = OUT m d)
    ∧ ∀ sm : SemLoc sig, sm.isScoped .tc = false → s.sem ((d : Thread nD τ), sm) = 0

theorem read_out (s' : Phys nD τ sig (Elt F)) :
    iprop((semVal (bar d) 0 ∗ inp m d ∗ out1 m d) ∗ inRest m d ∗ SI s') ⊢ (|={Set.univ}=> iprop(⌜Final m d s'.mem⌝ ∗ SI s') : sProp 𝕄) := by
  iintro ⟨⟨Hb, Hi, Ho⟩, Hr, HS⟩
  ihave Hx := (in_join m d) $$ [Hi Hr]
  · isplitl [Hi]; · iexact Hi
    iexact Hr
  ihave Hy := (out_join m d) $$ Ho
  ihave H := (pointsTo_read_all (Finset.univ : Finset (Fin 1)) (fun _ => (d : Thread nD τ).loc main_arg0)
      (fun _ => m ((d : Thread nD τ).loc main_arg0)) s') $$ [Hx HS]
  · isplitl [Hx]; · iapply (Entails.of_eq (bigSep_singleton (i := (0 : Fin 1)) (Φ := fun _ => ((d : Thread nD τ).loc main_arg0 ↦{fullShare} m ((d : Thread nD τ).loc main_arg0) : sProp 𝕄))).symm); iexact Hx
    iexact HS
  icases H with ⟨%hx, HS⟩
  ihave H := (pointsTo_read_all (Finset.univ : Finset (Fin 1)) (fun _ => (d : Thread nD τ).loc main_v1)
      (fun _ => OUT m d) s') $$ [Hy HS]
  · isplitl [Hy]; · iapply (Entails.of_eq (bigSep_singleton (i := (0 : Fin 1)) (Φ := fun _ => ((d : Thread nD τ).loc main_v1 ↦{fullShare} (OUT m d : Buf (Elt F) ((d : Thread nD τ).loc main_v1)) : sProp 𝕄))).symm); iexact Hy
    iexact HS
  icases H with ⟨%hy, HS⟩
  imod (Pipeline.unscopedSems0_read (X := semVal (bar d) 0) (c := d) (by rw [← unscoped_eq]; exact fupd_intro) s') $$ [Hb HS] with ⟨%hz, HS⟩
  · isplitl [Hb]; · iexact Hb
    iexact HS
  imodintro
  isplitr
  · ipureintro; exact ⟨⟨hx 0 (Finset.mem_univ _), hy 0 (Finset.mem_univ _)⟩, hz⟩
  iexact HS

set_option maxRecDepth 200000 in
/-- At the compiled mesh, at any float values, from any memory with zero counters: every weakly fair run of the
program ends, each device's input as it was, its result the sum, and every semaphore at zero. -/
theorem run_main (ρ : Dev nD → PrngReg) :
    θ_run defs (onTc (τ := τ) (main (F := F))) ⟨m, fun _ => 0, ρ⟩
      (fun r => (∀ d : Dev nD, r.2.mem ((d : Thread nD τ).loc main_arg0) = m ((d : Thread nD τ).loc main_arg0)
        ∧ r.2.mem ((d : Thread nD τ).loc main_v1) = OUT m d) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := oStart) (howed₀ := fun _ => rfl) (howedN := fun _ => rfl)
    (L := L) (lv := lv) (hL := L_of_ne) (hwaits := fun d => Pipeline.cellsWaits_intro cfgs (dats m) () 0 d fun w => w.elim0)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := ante m) (Y := fun d => iprop(semVal (bar d) 0 ∗ inp m d ∗ out1 m d)) (Z := inRest m)
    (hX := fun d => enter m d) (hin := enter_point m) (hout := leave_point m)
    (QY := Final m)
    (hY := read_out m)
    (hQ := fun _ h hs => ⟨fun d => (h d).2.2.1, sem_eq_zero hs fun d => (h d).2.2.2⟩)

end Cert.KernelIdeal.Exch

end
-- ==== Proof.Value.lean ====
/-
Over the extended reals every device's result is the reference's.
-/
module

public import proofs.«01_k».proof.Proof.Main
public import proofs.«01_k».proof.Proof.Gen.ReferenceIdeal.Run
public import Idealize.ShloMosaic.Lib.Pointwise.Reduce
public import Idealize.ShloMosaic.Lib.IdealHost
public import Idealize.ShloMosaic.Lib.Layout

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- Entry `(r, l)` of half `y` of the reference's argument. -/
def half (X : (⟨2, ![32768, 1024]⟩ : Shape).Idx → EReal) (y : Fin 2) (i : (Rows 16384).Idx) : EReal :=
  X (ValueIdx.ix2 (⟨y.val * 16384 + (i 0).val, by have : (i 0).val < 16384 := (i 0).isLt; have := y.isLt; omega⟩ : Fin 32768)
    (⟨(i 1).val, (i 1).isLt⟩ : Fin 1024))

/-! ## The reference -/

/-- The reference's result as its run leaves it. -/
abbrev refOut (X : FVec Ideal Cert.ReferenceIdeal.S32768x1024 .f32) : FVec Ideal Cert.ReferenceIdeal.S16384x1024 .bf16 :=
  truncf .bf16 (Host.reduceAdd (extf .f32 (shapeCast Cert.ReferenceIdeal.S2x16384x1024 (truncf .bf16 X bitsLt_bf16_f32)
      Cert.ReferenceIdeal.Gen.shapeCasts_S32768x1024_S2x16384x1024) bitsLt_bf16_f32) (constant Cert.ReferenceIdeal.S_ .f32 0x00000000#32)
    Cert.ReferenceIdeal.Gen.reducesTo_S2x16384x1024_S16384x1024_d0 Cert.ReferenceIdeal.Gen.h_S_) bitsLt_bf16_f32

/-- A stack of two matrices reshaped from one: entry `(y, r, l)` is entry `(y · b + r, l)`. -/
theorem reshaped_at {n b c : ℕ} {α : Type} (X : (⟨2, ![n, c]⟩ : Shape).Idx → α) (h : (⟨2, ![n, c]⟩ : Shape).ShapeCasts ⟨3, ![2, b, c]⟩)
    (y : Fin 2) (r : Fin b) (l : Fin c) (k : Fin n) (hk : k.val = y.val * b + r.val) :
    shapeCast ⟨3, ![2, b, c]⟩ X h (ValueIdx.ix3 y r l) = X (ValueIdx.ix2 k l) := by
  refine shapeCast_apply X h _ _ ?_
  rw [Shape.rowMajor_val_two, Shape.rowMajor_val_three]
  show k.val * c + l.val = (y.val * b + r.val) * c + l.val
  rw [hk]

/-- The reshaped argument's entry `(y, r, l)` is entry `(r, l)` of half `y`. -/
theorem reshaped (X : (⟨2, ![32768, 1024]⟩ : Shape).Idx → EReal) (y : Fin 2) (i : (Rows 16384).Idx)
    (h : (⟨2, ![32768, 1024]⟩ : Shape).ShapeCasts ⟨3, ![2, 16384, 1024]⟩) :
    shapeCast ⟨3, ![2, 16384, 1024]⟩ X h (ValueIdx.ix3 y (⟨(i 0).val, (i 0).isLt⟩ : Fin 16384) (⟨(i 1).val, (i 1).isLt⟩ : Fin 1024)) = half X y i :=
  reshaped_at X h y _ _ _ rfl

/-- The reference's result is the sum of the two halves. -/
theorem refOut_apply (X : FVec Ideal Cert.ReferenceIdeal.S32768x1024 .f32) (i : (Rows 16384).Idx) :
    refOut X i = half X 0 i + half X 1 i := by
  have h := Ideal.hostReduceAdd_r3_a0 Cert.ReferenceIdeal.Gen.reducesTo_S2x16384x1024_S16384x1024_d0
    (shapeCast Cert.ReferenceIdeal.S2x16384x1024 X Cert.ReferenceIdeal.Gen.shapeCasts_S32768x1024_S2x16384x1024) (Ideal.ofBits .f32 0x00000000#32) i
  refine (show refOut X i = _ from h).trans ?_
  rw [Fin.sum_univ_two, Ideal.ofBits_zero_f32, zero_add]
  exact congrArg₂ (· + ·) (reshaped X 0 i _) (reshaped X 1 i _)

/-! ## The kernel -/

/-- Device `e`'s place along `y`. -/
def yp (e : Dev nD) : Fin 2 := ⟨e.val / 2 % 2, Nat.mod_lt _ (by decide)⟩

theorem yp_ny : ∀ e : Dev nD, yp (ny e) = 1 - yp e := by decide
theorem block_row : ∀ e : Dev nD, Layout.meshLin [2, 2, 2] e.val [1] = (yp e).val := by decide

theorem cut_live : ∀ (b : Fin 2), ∀ i ∈ (![[1], []] : Fin 2 → List ℕ) b, 0 < [2, 2, 2].getD i 0 := by decide
theorem cut_tiles : Layout.TilesN ⟨2, ![16384, 1024]⟩ ⟨2, ![32768, 1024]⟩ (fun b => Layout.cutSize [2, 2, 2] ((![[1], []] : Fin 2 → List ℕ) b)) := by decide

/-- Where a block of a matrix lies in the whole. -/
theorem block_at {b c n w : ℕ} {kN : Fin 2 → ℕ} {α : Type} (h : Layout.TilesN ⟨2, ![b, c]⟩ ⟨2, ![n, w]⟩ kN)
    (j : (a : Fin 2) → Fin (kN a)) (v : (⟨2, ![n, w]⟩ : Shape).Idx → α) (i : (⟨2, ![b, c]⟩ : Shape).Idx) (r : Fin n) (l : Fin w)
    (hr : r.val = (j 0).val * b + (i 0).val) (hl : l.val = (j 1).val * c + (i 1).val) :
    Layout.blockN ⟨2, ![b, c]⟩ ⟨2, ![n, w]⟩ j v h i = v (ValueIdx.ix2 r l) := by
  refine congrArg v (funext fun a => Fin.ext ?_)
  rw [Layout.TilesN.idx_val]
  match a with
  | ⟨0, _⟩ => exact hr.symm
  | ⟨1, _⟩ => exact hl.symm

variable (m : (ℓ : Loc nD τ sig) → Buf (Elt Ideal) ℓ) (X : FVec Ideal Cert.ReferenceIdeal.S32768x1024 .f32)
  (hX : ∀ e : Dev nD, m ((e : Thread nD τ).loc main_arg0)
    = Layout.blockN ⟨2, ![16384, 1024]⟩ ⟨2, ![32768, 1024]⟩ (Layout.meshBlock [2, 2, 2] ![[1], []] e cut_live) X cut_tiles)

include hX

/-- Device `e`'s input is the half of its place along `y`. -/
theorem inV_apply (e : Dev nD) (i : (Rows 16384).Idx) : inV m e i = half X (yp e) i := by
  have h : inV m e i = m ((e : Thread nD τ).loc main_arg0) i := rfl
  rw [h, hX e]
  refine block_at _ _ X i _ _ ?_ ?_
  · exact congrArg (fun y : ℕ => y * 16384 + (i 0).val) (block_row e).symm
  · show (i 1).val = 0 * 1024 + (i 1).val
    rw [Nat.zero_mul, Nat.zero_add]

/-- The sum over `y` is the sum of the two halves, whichever of the two devices forms it. -/
theorem sumV_apply (e : Dev nD) (i : (Rows 16384).Idx) : sumV m e i = half X 0 i + half X 1 i := by
  have h : sumV m e i = (inV m (ny e) i : EReal) + (inV m e i : EReal) := rfl
  rw [h, inV_apply m X hX, inV_apply m X hX, yp_ny]
  generalize yp e = y
  match y with
  | 0 => exact add_comm _ _
  | 1 => rfl

/-- Every device's result is the reference's. -/
theorem OUT_eq (d : Dev nD) : OUT m d = refOut X := by
  funext i
  rw [refOut_apply]
  exact sumV_apply m X hX _ i

end Cert.KernelIdeal.Exch

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Main
public import proofs.«01_k».proof.Proof.Value
public import Idealize.ShloMosaic.Adequacy
public import Idealize.ShloMosaic.Init

@[expose] public section

noncomputable section

namespace Cert.Proof

open Idealize.ShloMosaic Idealize.SL.Sem
open Idealize.ShloMosaic.TcCoe

/-- The kernel over words: the run is the one over any float values, the two programs having the same text. -/
theorem frame_kernel : Cert.quiescent_Kernel := fun m ρ _ =>
  (θ_run Cert.KernelIdeal.defs _ _).mono (fun _ h => ⟨fun c => (h.1 c).1, h.2⟩) (Cert.KernelIdeal.Exch.run_main (F := Bits) m ρ)

/-- The kernel over the extended reals. -/
theorem frame_kernelIdeal : Cert.quiescent_KernelIdeal := fun m ρ _ =>
  (θ_run Cert.KernelIdeal.defs _ _).mono (fun _ h => ⟨fun c => (h.1 c).1, h.2⟩) (Cert.KernelIdeal.Exch.run_main (F := Ideal) m ρ)

/-- The reference. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Every device ends with the reference's result. -/
theorem algebraic : Cert.algebraic_KernelIdeal_ReferenceIdeal := fun m ρ m' ρ' _ hX =>
  ⟨Cert.KernelIdeal.Exch.refOut (m' (((0 : Dev Cert.ReferenceIdeal.nD) : Thread Cert.ReferenceIdeal.nD Cert.ReferenceIdeal.τ).loc Cert.ReferenceIdeal.main_arg0)),
    (θ_run Cert.KernelIdeal.defs _ _).mono
      (fun _ h c => ⟨(h.1 c).2.trans (Cert.KernelIdeal.Exch.OUT_eq m _ hX c), (h.1 c).1⟩) (Cert.KernelIdeal.Exch.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
